-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x128x512 .f32) (main_arg1 : FVec F S512x256 .f32) (main_arg2 : FVec F S512x256 .f32) (main_arg3 : FVec F S512x256 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Pre_finite_ReferenceIdeal.lean ====
abbrev S2x128x512 : Shape := ⟨3, ![2, 128, 512]⟩
abbrev S512x2048 : Shape := ⟨2, ![512, 2048]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S2x128x512 .f32) (main_arg1 : FVec F S512x2048 .f32) (main_arg2 : FVec F S512x2048 .f32) (main_arg3 : FVec F S512x2048 .f32) (main_arg4 : FVec F S2048x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S256x512 : Shape := ⟨2, ![256, 512]⟩
abbrev S256 : Shape := ⟨1, ![256]⟩
abbrev S_ : Shape := ⟨0, ![]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S512x512 : Shape := ⟨2, ![512, 512]⟩
abbrev S1792x256 : Shape := ⟨2, ![1792, 256]⟩
abbrev S8x32x512 : Shape := ⟨3, ![8, 32, 512]⟩
abbrev S8 : Shape := ⟨1, ![8]⟩
abbrev S256x256 : Shape := ⟨2, ![256, 256]⟩
abbrev S128x64 : Shape := ⟨2, ![128, 64]⟩
abbrev S64x128 : Shape := ⟨2, ![64, 128]⟩
abbrev S128x128 : Shape := ⟨2, ![128, 128]⟩
abbrev S1 : Shape := ⟨1, ![1]⟩
abbrev S1x32x512 : Shape := ⟨3, ![1, 32, 512]⟩
abbrev S32x512 : Shape := ⟨2, ![32, 512]⟩

abbrev nBuf : Space → Nat
  | .hbm => 38
  | .vmem => 6
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S256, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S128, .i32⟩
  | .hbm, ⟨24, _⟩ => ⟨S128x1, .i32⟩
  | .hbm, ⟨25, _⟩ => ⟨S1x256, .f32⟩
  | .hbm, ⟨26, _⟩ => ⟨S128x1, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S256x512, .f32⟩
  | .hbm, ⟨35, _⟩ => ⟨S512x512, .f32⟩
  | .hbm, ⟨36, _⟩ => ⟨S1792x256, .f32⟩
  | .hbm, ⟨37, _⟩ => ⟨S2x128x512, .f32⟩
  | .local _ .vmem, ⟨0, _⟩ => ⟨S512x512, .f32⟩
  | .local _ .vmem, ⟨1, _⟩ => ⟨S1792x256, .f32⟩
  | .local _ .vmem, ⟨2, _⟩ => ⟨S2x128x512, .f32⟩
  | .local _ .vmem, ⟨3, _⟩ => ⟨S256x512, .bf16⟩
  | .local _ .vmem, ⟨4, _⟩ => ⟨S8x32x512, .bf16⟩
  | .local _ .vmem, ⟨5, _⟩ => ⟨S8x32x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_219 : BitVec 32 := 0#32
  let c0_i32_217 : BitVec 32 := 0#32
  let c1_i32_218 : BitVec 32 := 1#32
  let v429 : BitVec 32 := Scalar.muli c0_i32_217 c1_i32_218
  let v430 : BitVec 32 := Scalar.addi c0_i32_219 v429
  v430.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_219 : BitVec 32 := 0#32
  let c1_i32_217 : BitVec 32 := 1#32
  let c1_i32_218 : BitVec 32 := 1#32
  let v429 : BitVec 32 := Scalar.muli c1_i32_217 c1_i32_218
  let v430 : BitVec 32 := Scalar.addi c0_i32_219 v429
  v430.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_219 : BitVec 32 := 0#32
  let c2_i32_217 : BitVec 32 := 2#32
  let c1_i32_218 : BitVec 32 := 1#32
  let v429 : BitVec 32 := Scalar.muli c2_i32_217 c1_i32_218
  let v430 : BitVec 32 := Scalar.addi c0_i32_219 v429
  v430.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_219 : BitVec 32 := 0#32
  let c3_i32_217 : BitVec 32 := 3#32
  let c1_i32_218 : BitVec 32 := 1#32
  let v429 : BitVec 32 := Scalar.muli c3_i32_217 c1_i32_218
  let v430 : BitVec 32 := Scalar.addi c0_i32_219 v429
  v430.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_219 : BitVec 32 := 0#32
  let c4_i32_217 : BitVec 32 := 4#32
  let c1_i32_218 : BitVec 32 := 1#32
  let v429 : BitVec 32 := Scalar.muli c4_i32_217 c1_i32_218
  let v430 : BitVec 32 := Scalar.addi c0_i32_219 v429
  v430.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_219 : BitVec 32 := 0#32
  let c5_i32_217 : BitVec 32 := 5#32
  let c1_i32_218 : BitVec 32 := 1#32
  let v429 : BitVec 32 := Scalar.muli c5_i32_217 c1_i32_218
  let v430 : BitVec 32 := Scalar.addi c0_i32_219 v429
  v430.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_219 : BitVec 32 := 0#32
  let c6_i32_217 : BitVec 32 := 6#32
  let c1_i32_218 : BitVec 32 := 1#32
  let v429 : BitVec 32 := Scalar.muli c6_i32_217 c1_i32_218
  let v430 : BitVec 32 := Scalar.addi c0_i32_219 v429
  v430.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_219 : BitVec 32 := 0#32
  let c7_i32_217 : BitVec 32 := 7#32
  let c1_i32_218 : BitVec 32 := 1#32
  let v429 : BitVec 32 := Scalar.muli c7_i32_217 c1_i32_218
  let v430 : BitVec 32 := Scalar.addi c0_i32_219 v429
  v430.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_69 : BitVec 32 := 0#32
  let v218 : BitVec 1 := Scalar.cmpi .ne v2 c0_i32_69
  let v219 : BitVec 32 := Scalar.extui v218
  let c0_i32_70 : BitVec 32 := 0#32
  let v220 : BitVec 1 := Scalar.cmpi .ne v219 c0_i32_70
  v220

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev9 : Nat :=
  let c0_i32_219 : BitVec 32 := 0#32
  let c0_i32_217 : BitVec 32 := 0#32
  let c1_i32_218 : BitVec 32 := 1#32
  let v429 : BitVec 32 := Scalar.muli c0_i32_217 c1_i32_218
  let v430 : BitVec 32 := Scalar.addi c0_i32_219 v429
  v430.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_71 : BitVec 32 := 1#32
  let v221 : BitVec 1 := Scalar.cmpi .ne v2 c1_i32_71
  let v222 : BitVec 32 := Scalar.extui v221
  let c0_i32_72 : BitVec 32 := 0#32
  let v223 : BitVec 1 := Scalar.cmpi .ne v222 c0_i32_72
  v223

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev10 : Nat :=
  let c0_i32_219 : BitVec 32 := 0#32
  let c1_i32_217 : BitVec 32 := 1#32
  let c1_i32_218 : BitVec 32 := 1#32
  let v429 : BitVec 32 := Scalar.muli c1_i32_217 c1_i32_218
  let v430 : BitVec 32 := Scalar.addi c0_i32_219 v429
  v430.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_73 : BitVec 32 := 2#32
  let v224 : BitVec 1 := Scalar.cmpi .ne v2 c2_i32_73
  let v225 : BitVec 32 := Scalar.extui v224
  let c0_i32_74 : BitVec 32 := 0#32
  let v226 : BitVec 1 := Scalar.cmpi .ne v225 c0_i32_74
  v226

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev11 : Nat :=
  let c0_i32_219 : BitVec 32 := 0#32
  let c2_i32_217 : BitVec 32 := 2#32
  let c1_i32_218 : BitVec 32 := 1#32
  let v429 : BitVec 32 := Scalar.muli c2_i32_217 c1_i32_218
  let v430 : BitVec 32 := Scalar.addi c0_i32_219 v429
  v430.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_75 : BitVec 32 := 3#32
  let v227 : BitVec 1 := Scalar.cmpi .ne v2 c3_i32_75
  let v228 : BitVec 32 := Scalar.extui v227
  let c0_i32_76 : BitVec 32 := 0#32
  let v229 : BitVec 1 := Scalar.cmpi .ne v228 c0_i32_76
  v229

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev12 : Nat :=
  let c0_i32_219 : BitVec 32 := 0#32
  let c3_i32_217 : BitVec 32 := 3#32
  let c1_i32_218 : BitVec 32 := 1#32
  let v429 : BitVec 32 := Scalar.muli c3_i32_217 c1_i32_218
  let v430 : BitVec 32 := Scalar.addi c0_i32_219 v429
  v430.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_77 : BitVec 32 := 4#32
  let v230 : BitVec 1 := Scalar.cmpi .ne v2 c4_i32_77
  let v231 : BitVec 32 := Scalar.extui v230
  let c0_i32_78 : BitVec 32 := 0#32
  let v232 : BitVec 1 := Scalar.cmpi .ne v231 c0_i32_78
  v232

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev13 : Nat :=
  let c0_i32_219 : BitVec 32 := 0#32
  let c4_i32_217 : BitVec 32 := 4#32
  let c1_i32_218 : BitVec 32 := 1#32
  let v429 : BitVec 32 := Scalar.muli c4_i32_217 c1_i32_218
  let v430 : BitVec 32 := Scalar.addi c0_i32_219 v429
  v430.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_79 : BitVec 32 := 5#32
  let v233 : BitVec 1 := Scalar.cmpi .ne v2 c5_i32_79
  let v234 : BitVec 32 := Scalar.extui v233
  let c0_i32_80 : BitVec 32 := 0#32
  let v235 : BitVec 1 := Scalar.cmpi .ne v234 c0_i32_80
  v235

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev14 : Nat :=
  let c0_i32_219 : BitVec 32 := 0#32
  let c5_i32_217 : BitVec 32 := 5#32
  let c1_i32_218 : BitVec 32 := 1#32
  let v429 : BitVec 32 := Scalar.muli c5_i32_217 c1_i32_218
  let v430 : BitVec 32 := Scalar.addi c0_i32_219 v429
  v430.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_81 : BitVec 32 := 6#32
  let v236 : BitVec 1 := Scalar.cmpi .ne v2 c6_i32_81
  let v237 : BitVec 32 := Scalar.extui v236
  let c0_i32_82 : BitVec 32 := 0#32
  let v238 : BitVec 1 := Scalar.cmpi .ne v237 c0_i32_82
  v238

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev15 : Nat :=
  let c0_i32_219 : BitVec 32 := 0#32
  let c6_i32_217 : BitVec 32 := 6#32
  let c1_i32_218 : BitVec 32 := 1#32
  let v429 : BitVec 32 := Scalar.muli c6_i32_217 c1_i32_218
  let v430 : BitVec 32 := Scalar.addi c0_i32_219 v429
  v430.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_83 : BitVec 32 := 7#32
  let v239 : BitVec 1 := Scalar.cmpi .ne v2 c7_i32_83
  let v240 : BitVec 32 := Scalar.extui v239
  let c0_i32_84 : BitVec 32 := 0#32
  let v241 : BitVec 1 := Scalar.cmpi .ne v240 c0_i32_84
  v241

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev16 : Nat :=
  let c0_i32_219 : BitVec 32 := 0#32
  let c7_i32_217 : BitVec 32 := 7#32
  let c1_i32_218 : BitVec 32 := 1#32
  let v429 : BitVec 32 := Scalar.muli c7_i32_217 c1_i32_218
  let v430 : BitVec 32 := Scalar.addi c0_i32_219 v429
  v430.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v242 : BitVec 32 := Scalar.muli v2 c32_i32
  let v243 : Index := Scalar.indexCast v242
  let c0_85 : Index := 0#32
  ![v243.toNat, 0]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v245 : Index := Scalar.indexCast v2
  let c0_86 : Index := 0#32
  let c0_87 : Index := 0#32
  ![v245.toNat, 0, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_123 : BitVec 32 := 0#32
  let v309 : BitVec 1 := Scalar.cmpi .ne v2 c0_i32_123
  let v310 : BitVec 32 := Scalar.extui v309
  let c0_i32_124 : BitVec 32 := 0#32
  let v311 : BitVec 1 := Scalar.cmpi .ne v310 c0_i32_124
  v311

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev17 : Nat :=
  let c0_i32_219 : BitVec 32 := 0#32
  let c0_i32_217 : BitVec 32 := 0#32
  let c1_i32_218 : BitVec 32 := 1#32
  let v429 : BitVec 32 := Scalar.muli c0_i32_217 c1_i32_218
  let v430 : BitVec 32 := Scalar.addi c0_i32_219 v429
  v430.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_125 : BitVec 32 := 1#32
  let v312 : BitVec 1 := Scalar.cmpi .ne v2 c1_i32_125
  let v313 : BitVec 32 := Scalar.extui v312
  let c0_i32_126 : BitVec 32 := 0#32
  let v314 : BitVec 1 := Scalar.cmpi .ne v313 c0_i32_126
  v314

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev18 : Nat :=
  let c0_i32_219 : BitVec 32 := 0#32
  let c1_i32_217 : BitVec 32 := 1#32
  let c1_i32_218 : BitVec 32 := 1#32
  let v429 : BitVec 32 := Scalar.muli c1_i32_217 c1_i32_218
  let v430 : BitVec 32 := Scalar.addi c0_i32_219 v429
  v430.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_127 : BitVec 32 := 2#32
  let v315 : BitVec 1 := Scalar.cmpi .ne v2 c2_i32_127
  let v316 : BitVec 32 := Scalar.extui v315
  let c0_i32_128 : BitVec 32 := 0#32
  let v317 : BitVec 1 := Scalar.cmpi .ne v316 c0_i32_128
  v317

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev19 : Nat :=
  let c0_i32_219 : BitVec 32 := 0#32
  let c2_i32_217 : BitVec 32 := 2#32
  let c1_i32_218 : BitVec 32 := 1#32
  let v429 : BitVec 32 := Scalar.muli c2_i32_217 c1_i32_218
  let v430 : BitVec 32 := Scalar.addi c0_i32_219 v429
  v430.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_129 : BitVec 32 := 3#32
  let v318 : BitVec 1 := Scalar.cmpi .ne v2 c3_i32_129
  let v319 : BitVec 32 := Scalar.extui v318
  let c0_i32_130 : BitVec 32 := 0#32
  let v320 : BitVec 1 := Scalar.cmpi .ne v319 c0_i32_130
  v320

def k0_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev20 : Nat :=
  let c0_i32_219 : BitVec 32 := 0#32
  let c3_i32_217 : BitVec 32 := 3#32
  let c1_i32_218 : BitVec 32 := 1#32
  let v429 : BitVec 32 := Scalar.muli c3_i32_217 c1_i32_218
  let v430 : BitVec 32 := Scalar.addi c0_i32_219 v429
  v430.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_131 : BitVec 32 := 4#32
  let v321 : BitVec 1 := Scalar.cmpi .ne v2 c4_i32_131
  let v322 : BitVec 32 := Scalar.extui v321
  let c0_i32_132 : BitVec 32 := 0#32
  let v323 : BitVec 1 := Scalar.cmpi .ne v322 c0_i32_132
  v323

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev21 : Nat :=
  let c0_i32_219 : BitVec 32 := 0#32
  let c4_i32_217 : BitVec 32 := 4#32
  let c1_i32_218 : BitVec 32 := 1#32
  let v429 : BitVec 32 := Scalar.muli c4_i32_217 c1_i32_218
  let v430 : BitVec 32 := Scalar.addi c0_i32_219 v429
  v430.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_133 : BitVec 32 := 5#32
  let v324 : BitVec 1 := Scalar.cmpi .ne v2 c5_i32_133
  let v325 : BitVec 32 := Scalar.extui v324
  let c0_i32_134 : BitVec 32 := 0#32
  let v326 : BitVec 1 := Scalar.cmpi .ne v325 c0_i32_134
  v326

def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev22 : Nat :=
  let c0_i32_219 : BitVec 32 := 0#32
  let c5_i32_217 : BitVec 32 := 5#32
  let c1_i32_218 : BitVec 32 := 1#32
  let v429 : BitVec 32 := Scalar.muli c5_i32_217 c1_i32_218
  let v430 : BitVec 32 := Scalar.addi c0_i32_219 v429
  v430.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_135 : BitVec 32 := 6#32
  let v327 : BitVec 1 := Scalar.cmpi .ne v2 c6_i32_135
  let v328 : BitVec 32 := Scalar.extui v327
  let c0_i32_136 : BitVec 32 := 0#32
  let v329 : BitVec 1 := Scalar.cmpi .ne v328 c0_i32_136
  v329

def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev23 : Nat :=
  let c0_i32_219 : BitVec 32 := 0#32
  let c6_i32_217 : BitVec 32 := 6#32
  let c1_i32_218 : BitVec 32 := 1#32
  let v429 : BitVec 32 := Scalar.muli c6_i32_217 c1_i32_218
  let v430 : BitVec 32 := Scalar.addi c0_i32_219 v429
  v430.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_137 : BitVec 32 := 7#32
  let v330 : BitVec 1 := Scalar.cmpi .ne v2 c7_i32_137
  let v331 : BitVec 32 := Scalar.extui v330
  let c0_i32_138 : BitVec 32 := 0#32
  let v332 : BitVec 1 := Scalar.cmpi .ne v331 c0_i32_138
  v332

def k0_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_220 : BitVec 32 := 0#32
  let c0_i32_221 : BitVec 32 := 0#32
  ![v2.toNat, 0, 0]
def k0_dev24 : Nat :=
  let c0_i32_219 : BitVec 32 := 0#32
  let c7_i32_217 : BitVec 32 := 7#32
  let c1_i32_218 : BitVec 32 := 1#32
  let v429 : BitVec 32 := Scalar.muli c7_i32_217 c1_i32_218
  let v430 : BitVec 32 := Scalar.addi c0_i32_219 v429
  v430.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2048x512 : Shape := ⟨2, ![2048, 512]⟩
abbrev S32 : Shape := ⟨1, ![32]⟩
abbrev S_ : Shape := ⟨0, ![]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S128x32x2 : Shape := ⟨3, ![128, 32, 2]⟩
abbrev S128x64 : Shape := ⟨2, ![128, 64]⟩
abbrev S2x128x2048 : Shape := ⟨3, ![2, 128, 2048]⟩
abbrev S2x128x32x64 : Shape := ⟨4, ![2, 128, 32, 64]⟩
abbrev S2x128x32x32x2 : Shape := ⟨5, ![2, 128, 32, 32, 2]⟩
abbrev S2x128x32x32x1 : Shape := ⟨5, ![2, 128, 32, 32, 1]⟩
abbrev S2x128x32x32 : Shape := ⟨4, ![2, 128, 32, 32]⟩
abbrev S1x128x1x64 : Shape := ⟨4, ![1, 128, 1, 64]⟩
abbrev S2x32x128x128 : Shape := ⟨4, ![2, 32, 128, 128]⟩
abbrev S2x32x128 : Shape := ⟨3, ![2, 32, 128]⟩
abbrev S2x32x128x1 : Shape := ⟨4, ![2, 32, 128, 1]⟩
abbrev S2x32x64x128 : Shape := ⟨4, ![2, 32, 64, 128]⟩

abbrev nBuf : Space → Nat
  | .hbm => 94
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S2048x512, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S128, .i32⟩
  | .hbm, ⟨23, _⟩ => ⟨S128x1, .i32⟩
  | .hbm, ⟨24, _⟩ => ⟨S1x32, .f32⟩
  | .hbm, ⟨25, _⟩ => ⟨S128x1, .f32⟩
  | .hbm, ⟨26, _⟩ => ⟨S128x32, .f32⟩
  | .hbm, ⟨27, _⟩ => ⟨S128x32, .f32⟩
  | .hbm, ⟨28, _⟩ => ⟨S128x32, .f32⟩
  | .hbm, ⟨29, _⟩ => ⟨S128x32, .f32⟩
  | .hbm, ⟨30, _⟩ => ⟨S128x32x2, .f32⟩
  | .hbm, ⟨31, _⟩ => ⟨S128x64, .f32⟩
  | .hbm, ⟨32, _⟩ => ⟨S128x32, .f32⟩
  | .hbm, ⟨33, _⟩ => ⟨S128x32x2, .f32⟩
  | .hbm, ⟨34, _⟩ => ⟨S128x64, .f32⟩
  | .hbm, ⟨35, _⟩ => ⟨S2x128x2048, .f32⟩
  | .hbm, ⟨36, _⟩ => ⟨S2x128x32x64, .f32⟩
  | .hbm, ⟨37, _⟩ => ⟨S2x128x32x32x2, .f32⟩
  | .hbm, ⟨38, _⟩ => ⟨S2x128x32x32x1, .f32⟩
  | .hbm, ⟨39, _⟩ => ⟨S2x128x32x32, .f32⟩
  | .hbm, ⟨40, _⟩ => ⟨S2x128x32x32, .f32⟩
  | .hbm, ⟨41, _⟩ => ⟨S2x128x32x32x1, .f32⟩
  | .hbm, ⟨42, _⟩ => ⟨S2x128x32x32, .f32⟩
  | .hbm, ⟨43, _⟩ => ⟨S2x128x32x32x1, .f32⟩
  | .hbm, ⟨44, _⟩ => ⟨S2x128x32x32x1, .f32⟩
  | .hbm, ⟨45, _⟩ => ⟨S2x128x32x32x2, .f32⟩
  | .hbm, ⟨46, _⟩ => ⟨S2x128x32x64, .f32⟩
  | .hbm, ⟨47, _⟩ => ⟨S1x128x1x64, .f32⟩
  | .hbm, ⟨48, _⟩ => ⟨S2x128x32x64, .f32⟩
  | .hbm, ⟨49, _⟩ => ⟨S2x128x32x64, .f32⟩
  | .hbm, ⟨50, _⟩ => ⟨S1x128x1x64, .f32⟩
  | .hbm, ⟨51, _⟩ => ⟨S2x128x32x64, .f32⟩
  | .hbm, ⟨52, _⟩ => ⟨S2x128x32x64, .f32⟩
  | .hbm, ⟨53, _⟩ => ⟨S2x128x32x64, .f32⟩
  | .hbm, ⟨54, _⟩ => ⟨S2x128x2048, .f32⟩
  | .hbm, ⟨55, _⟩ => ⟨S2x128x32x64, .f32⟩
  | .hbm, ⟨56, _⟩ => ⟨S2x128x32x32x2, .f32⟩
  | .hbm, ⟨57, _⟩ => ⟨S2x128x32x32x1, .f32⟩
  | .hbm, ⟨58, _⟩ => ⟨S2x128x32x32, .f32⟩
  | .hbm, ⟨59, _⟩ => ⟨S2x128x32x32, .f32⟩
  | .hbm, ⟨60, _⟩ => ⟨S2x128x32x32x1, .f32⟩
  | .hbm, ⟨61, _⟩ => ⟨S2x128x32x32, .f32⟩
  | .hbm, ⟨62, _⟩ => ⟨S2x128x32x32x1, .f32⟩
  | .hbm, ⟨63, _⟩ => ⟨S2x128x32x32x1, .f32⟩
  | .hbm, ⟨64, _⟩ => ⟨S2x128x32x32x2, .f32⟩
  | .hbm, ⟨65, _⟩ => ⟨S2x128x32x64, .f32⟩
  | .hbm, ⟨66, _⟩ => ⟨S1x128x1x64, .f32⟩
  | .hbm, ⟨67, _⟩ => ⟨S2x128x32x64, .f32⟩
  | .hbm, ⟨68, _⟩ => ⟨S2x128x32x64, .f32⟩
  | .hbm, ⟨69, _⟩ => ⟨S1x128x1x64, .f32⟩
  | .hbm, ⟨70, _⟩ => ⟨S2x128x32x64, .f32⟩
  | .hbm, ⟨71, _⟩ => ⟨S2x128x32x64, .f32⟩
  | .hbm, ⟨72, _⟩ => ⟨S2x128x32x64, .f32⟩
  | .hbm, ⟨73, _⟩ => ⟨S2x128x2048, .f32⟩
  | .hbm, ⟨74, _⟩ => ⟨S2x128x32x64, .f32⟩
  | .hbm, ⟨75, _⟩ => ⟨S2x32x128x128, .f32⟩
  | .hbm, ⟨76, _⟩ => ⟨S_, .f32⟩
  | .hbm, ⟨77, _⟩ => ⟨S2x32x128x128, .f32⟩
  | .hbm, ⟨78, _⟩ => ⟨S2x32x128x128, .f32⟩
  | .hbm, ⟨79, _⟩ => ⟨S_, .f32⟩
  | .hbm, ⟨80, _⟩ => ⟨S2x32x128, .f32⟩
  | .hbm, ⟨81, _⟩ => ⟨S2x32x128x1, .f32⟩
  | .hbm, ⟨82, _⟩ => ⟨S2x32x128x128, .f32⟩
  | .hbm, ⟨83, _⟩ => ⟨S2x32x128x128, .f32⟩
  | .hbm, ⟨84, _⟩ => ⟨S2x32x128x128, .f32⟩
  | .hbm, ⟨85, _⟩ => ⟨S_, .f32⟩
  | .hbm, ⟨86, _⟩ => ⟨S2x32x128, .f32⟩
  | .hbm, ⟨87, _⟩ => ⟨S2x32x128x1, .f32⟩
  | .hbm, ⟨88, _⟩ => ⟨S2x32x128x128, .f32⟩
  | .hbm, ⟨89, _⟩ => ⟨S2x32x128x128, .f32⟩
  | .hbm, ⟨90, _⟩ => ⟨S2x32x64x128, .f32⟩
  | .hbm, ⟨91, _⟩ => ⟨S2x128x32x64, .f32⟩
  | .hbm, ⟨92, _⟩ => ⟨S2x128x2048, .f32⟩
  | .hbm, ⟨93, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Proto.lean ====
/- The conversation between the eight devices: its semaphore cells, what each buffer holds when a copy lands,
   and the schedule of duties.

   Every device c, against every other device t:
   * barrier cell of t: c signals one unit, handing over slot t of its own first and second receive buffer (at any
     contents) with the fact that round 0 of the two receive cells t will credit is reached. c waits for seven units.
   * kind 0 and 1 (reduce-scatter): c copies block t of its partial product onto slot c of t's first receive buffer.
     The send cell (0, t) of c gives the block back, the receive cell (1, c) of t gives the slot at the block's contents.
   * kind 2 and 3 (all-gather): c copies its reduced block, slot c of its second receive buffer, onto slot c of t's. The
     send cell (2, t) of c gives back the share lent to that copy, the receive cell (3, c) of t gives the slot at the
     reduced block. -/
module

public import proofs.«01_k».proof.Proof.Gen.KernelIdeal.Frame
public import proofs.«01_k».proof.Proof.Gen.KernelIdeal.Skeleton
public import Idealize.ShloMosaic.Lib.ValueIdxCore
public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.ShareLeaves
public import Idealize.ShloMosaic.Lib.Pipeline.RegionTalk

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix0 ix1 ix2 ix3 eq_ix1 eq_ix2 eq_ix3)
open Cert.KernelIdeal.Gen

variable {F : FTy → Type} [FloatOps F]

/-- The pipeline's own round state beside the conversation's, whose duties are named by devices. -/
abbrev UU : Type := UR sig nD τ × Rounds.URounds (GSem nD τ sig) (Dev nD)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Dev nD)) (MT nD τ sig Unit (Elt F) ℕ UU ℕ) := embR

/-! ## Buffers, slots and rows -/

abbrev pM : Memref sig .tc .vmem S256x512 .bf16 := Memref.whole cc0_scratch0
abbrev r1M : Memref sig .tc .vmem S8x32x512 .bf16 := Memref.whole cc0_scratch1
abbrev r2M : Memref sig .tc .vmem S8x32x512 .bf16 := Memref.whole cc0_scratch2

theorem inb_slot (s : Dev nD) : ∀ a, (![s.val, 0, 0] : Fin 3 → ℕ) a + S1x32x512.size a ≤ S8x32x512.size a := by
  revert s; decide
theorem inb_rows (s : Dev nD) : ∀ a, (![32 * s.val, 0] : Fin 2 → ℕ) a + S32x512.size a ≤ S256x512.size a := by
  revert s; decide

/-- Slot `s` of a receive buffer, as a block of rows. -/
abbrev slotM (M : Memref sig .tc .vmem S8x32x512 .bf16) (s : Dev nD) : Memref sig .tc .vmem S32x512 .bf16 :=
  (M.slice (Rect.unit (s := S8x32x512) ![s.val, 0, 0] S1x32x512.size (inb_slot s)) (fun _ => rfl)).squeeze S32x512 squeezes_S1x32x512_S32x512
/-- Rows `32 s` to `32 s + 31` of the partial product. -/
abbrev rowsM (s : Dev nD) : Memref sig .tc .vmem S32x512 .bf16 :=
  pM.slice (Rect.unit (s := S256x512) ![32 * s.val, 0] S32x512.size (inb_rows s)) (fun _ => rfl)

/-- What a copy of 32 rows credits. -/
abbrev N : ℕ := (slotM r1M 0).view.dmaCredit
theorem N_pos : 0 < N := View.dmaCredit_pos _ (by decide)

theorem amount_slot1 (s : Dev nD) (n : DmaSem sig) : (slotM r1M s).view.amount (.dma n) = N := rfl
theorem amount_slot2 (s : Dev nD) (n : DmaSem sig) : (slotM r2M s).view.amount (.dma n) = N := rfl

/-- Share `t` of eight of a slot's ownership. -/
abbrev lf (t : Dev nD) : PosShare TreeShare := ShareLeaves.leaf 3 fullShare t

abbrev rowsPt (c j : Dev nD) (f : Vec F S256x512 .bf16) : sProp 𝕄 :=
  (rowsM j).view.loc (c : Thread nD τ) ↦[(rowsM j).view.set]{fullShare} f
abbrev slot1 (c s : Dev nD) (f : Vec F S8x32x512 .bf16) : sProp 𝕄 :=
  (slotM r1M s).view.loc (c : Thread nD τ) ↦[(slotM r1M s).view.set]{fullShare} f
abbrev slot2 (q : PosShare TreeShare) (c s : Dev nD) (f : Vec F S8x32x512 .bf16) : sProp 𝕄 :=
  (slotM r2M s).view.loc (c : Thread nD τ) ↦[(slotM r2M s).view.set]{q} f

/-! ## Cells -/

abbrev barS : Sem sig := (SemArray.scalar (sig.barrier 0 rfl) : Sems sig S_).sem
/-- The DMA semaphore of kind `k` towards or from device `j`. -/
def dsem (k : Fin 4) (j : Dev nD) : DmaSem sig := ⟨3 + 8 * k.val + j.val, by have := k.isLt; have h : j.val < 8 := j.isLt; show _ < 35; omega⟩
abbrev barCell (c : Dev nD) : GSem nD τ sig := ((c : Thread nD τ), .reg barS)
abbrev dcell (k : Fin 4) (c j : Dev nD) : GSem nD τ sig := ((c : Thread nD τ), .dma (dsem k j))

/-- Kind and device of a DMA semaphore, three and up. -/
def knd (n : DmaSem sig) : ℕ := (n.val - 3) / 8
def ix (n : DmaSem sig) : Dev nD := ⟨(n.val - 3) % 8, Nat.mod_lt _ (by decide)⟩
theorem knd_dsem (k : Fin 4) (j : Dev nD) : knd (dsem k j) = k.val := by
  have h : j.val < 8 := j.isLt
  show (3 + 8 * k.val + j.val - 3) / 8 = k.val; omega
theorem ix_dsem (k : Fin 4) (j : Dev nD) : ix (dsem k j) = j := by
  have h : j.val < 8 := j.isLt
  refine Fin.ext ?_
  show (3 + 8 * k.val + j.val - 3) % 8 = j.val; omega
theorem dsem_ge (k : Fin 4) (j : Dev nD) : 3 ≤ (dsem k j).val := by show 3 ≤ 3 + 8 * k.val + j.val; omega

/-! ## What the buffers hold -/

section Contents

variable (pb : Dev nD → Vec F S256x512 .bf16)

/-- Device `c`'s first receive buffer once every block has landed: block `c` of every device's partial product. -/
def rb1 (c : Dev nD) : Vec F S8x32x512 .bf16 := fun i => pb (i 0) (ix2 ⟨32 * c.val + (i 1).val, by
  have h : c.val < 8 := c.isLt
  have h1 : (i 1).val < 32 := (i 1).isLt
  show _ < 256; omega⟩ (i 2))

/-- Slot `s` of a receive buffer's contents, as loaded. -/
def sl (f : Vec F S8x32x512 .bf16) (s : Dev nD) : Vec F S1x32x512 .bf16 := fun x => f (ix3 s (x 1) (x 2))

/-- Device `c`'s reduced block. -/
def accOf (c : Dev nD) : Vec F S1x32x512 .bf16 :=
  k0_pay24 (k0_pay23 (sl (rb1 pb c) 0) (sl (rb1 pb c) 1) (sl (rb1 pb c) 2) (sl (rb1 pb c) 3) (sl (rb1 pb c) 4) (sl (rb1 pb c) 5) (sl (rb1 pb c) 6) (sl (rb1 pb c) 7))

/-- The second receive buffer once every reduced block has landed: the same on every device. -/
def rb2 : Vec F S8x32x512 .bf16 := fun i => accOf pb (i 0) (ix3 0 (i 1) (i 2))

/-- The result: block `i` of the rows is reduced block `i`. -/
def outOf : Vec F S2x128x512 .f32 := fun i => k0_pay25 (sl (rb2 pb) ⟨4 * (i 0).val + (i 1).val / 32, by
  have h : (i 0).val < 2 := (i 0).isLt
  have h1 : (i 1).val < 128 := (i 1).isLt
  show _ < 8; omega⟩) (ix3 0 ⟨(i 1).val % 32, Nat.mod_lt _ (by decide)⟩ (i 2))

/-! ## The schedule -/

/-- Paid to `c`'s barrier cell by `d`. -/
def barPay (c d : Dev nD) : sProp 𝕄 :=
  iprop((∃ f, slot1 d c f) ∗ (∃ f, slot2 fullShare d c f) ∗ reached ER (dcell 1 d c) 0 ∗ reached ER (dcell 3 d c) 0)

/-- Paid to the DMA cell `n` of `c`. -/
def dmaPay (c : Dev nD) (n : DmaSem sig) : sProp 𝕄 :=
  if knd n = 0 then rowsPt c (ix n) (pb c)
  else if knd n = 1 then slot1 c (ix n) (rb1 pb c)
  else if knd n = 2 then slot2 (lf (ix n)) c c (rb2 pb)
  else slot2 fullShare c (ix n) (rb2 pb)

/-- One round: seven duties on a barrier cell, one on every DMA cell of a kind towards or from another device. -/
def talkRd : Rounds.Schedule (GSem nD τ sig) (Dev nD) 𝕄 where
  duties g r := if r = 0 ∧ g.1.2 = .tc then (match g.2 with
    | .reg _ => Finset.univ.erase g.1.1
    | .dma n => if 3 ≤ n.val ∧ ix n ≠ g.1.1 then {0} else ∅) else ∅
  unitless _ := False
  amount g _ _ := match g.2 with | .reg _ => 1 | .dma _ => N
  payload g _ d := match g.2 with | .reg _ => barPay g.1.1 d | .dma n => dmaPay pb g.1.1 n
  amount_pos g _ _ _ := by
    rcases g with ⟨t, sm⟩
    cases sm with
    | reg _ => exact Nat.one_pos
    | dma _ => exact N_pos

instance talkRd_payload_storable (g : GSem nD τ sig) (r : ℕ) (d : Dev nD) :
    BI.Storable (upEmb : UEmb _ 𝕄) ((talkRd (F := F) pb).payload g r d) := by
  rcases g with ⟨t, sm⟩
  cases sm with
  | reg _ => show BI.Storable upEmb (barPay t.1 d); unfold barPay; infer_instance
  | dma n => show BI.Storable upEmb (dmaPay pb t.1 n); unfold dmaPay; (repeat' split) <;> infer_instance

section Sched

variable (c j : Dev nD) (k : Fin 4)

theorem duties_bar : (talkRd (F := F) pb).duties (barCell c) 0 = Finset.univ.erase c := by
  dsimp only [talkRd]; exact if_pos ⟨rfl, rfl⟩
theorem duties_dma (h : c ≠ j) : (talkRd (F := F) pb).duties (dcell k c j) 0 = {0} := by
  dsimp only [talkRd]; rw [if_pos ⟨rfl, rfl⟩, if_pos ⟨dsem_ge k j, by rw [ix_dsem]; exact h.symm⟩]
theorem duties_own : (talkRd (F := F) pb).duties (dcell k c c) 0 = ∅ := by
  dsimp only [talkRd]; rw [if_pos ⟨rfl, rfl⟩, if_neg (fun h => h.2 (ix_dsem k c))]
theorem duties_later (g : GSem nD τ sig) : ∀ r, 1 ≤ r → (talkRd (F := F) pb).duties g r = ∅ :=
  fun r hr => by dsimp only [talkRd]; rw [if_neg (fun h => by omega)]
theorem duties_none (g : GSem nD τ sig) (h : (talkRd (F := F) pb).duties g 0 = ∅) : ∀ r, 0 ≤ r → (talkRd (F := F) pb).duties g r = ∅ :=
  fun r _ => by rcases Nat.eq_zero_or_pos r with h0 | h0; · rw [h0, h]
                exact duties_later pb g r h0

theorem amount_bar (d : Dev nD) : (talkRd (F := F) pb).amount (barCell c) 0 d = 1 := rfl
theorem amount_dma (d : Dev nD) : (talkRd (F := F) pb).amount (dcell k c j) 0 d = N := rfl

theorem expect_bar : (talkRd (F := F) pb).expect (barCell c) 0 = 7 := by
  unfold Schedule.expect Schedule.amountOf; rw [duties_bar]
  simp only [amount_bar, Finset.sum_const, smul_eq_mul, mul_one]
  rw [Finset.card_erase_of_mem (Finset.mem_univ _)]; rfl
theorem expect_dma (h : c ≠ j) : (talkRd (F := F) pb).expect (dcell k c j) 0 = N := by
  unfold Schedule.expect Schedule.amountOf; rw [duties_dma pb c j k h, Finset.sum_singleton, amount_dma]

theorem payload_bar (d : Dev nD) : (talkRd (F := F) pb).payload (barCell c) 0 d = barPay c d := rfl
theorem payload_0 (d : Dev nD) : (talkRd (F := F) pb).payload (dcell 0 c j) 0 d = rowsPt c j (pb c) := by
  show dmaPay pb c (dsem 0 j) = _; unfold dmaPay; simp only [knd_dsem, ix_dsem]; rfl
theorem payload_1 (d : Dev nD) : (talkRd (F := F) pb).payload (dcell 1 c j) 0 d = slot1 c j (rb1 pb c) := by
  show dmaPay pb c (dsem 1 j) = _; unfold dmaPay; simp only [knd_dsem, ix_dsem]; rfl
theorem payload_2 (d : Dev nD) : (talkRd (F := F) pb).payload (dcell 2 c j) 0 d = slot2 (lf j) c c (rb2 pb) := by
  show dmaPay pb c (dsem 2 j) = _; unfold dmaPay; simp only [knd_dsem, ix_dsem]; rfl
theorem payload_3 (d : Dev nD) : (talkRd (F := F) pb).payload (dcell 3 c j) 0 d = slot2 fullShare c j (rb2 pb) := by
  show dmaPay pb c (dsem 3 j) = _; unfold dmaPay; simp only [knd_dsem, ix_dsem]; rfl

theorem rest_bar : bigSep ((talkRd (F := F) pb).duties (barCell c) 0 \ ∅) (fun u => (talkRd (F := F) pb).payload (barCell c) 0 u)
    = bigSep (Finset.univ.erase c) (fun d => barPay (F := F) c d) := by
  rw [Finset.sdiff_empty, duties_bar]; rfl
theorem rest_dma (h : c ≠ j) : bigSep ((talkRd (F := F) pb).duties (dcell k c j) 0 \ ∅) (fun u => (talkRd (F := F) pb).payload (dcell k c j) 0 u)
    = (talkRd (F := F) pb).payload (dcell k c j) 0 0 := by
  rw [Finset.sdiff_empty, duties_dma pb c j k h, bigSep_singleton]

end Sched

end Contents

/-! ## What each core owes at launch; the levels -/

/-- Over the other devices: those below `k` are paid. -/
def dues (c : Dev nD) (T : Dev nD → CellTallies nD τ sig Unit) (k : ℕ) : CellTallies nD τ sig Unit :=
  ∑ j ∈ Finset.univ.erase c, if j.val < k then 0 else T j

abbrev tBar (_c : Dev nD) (j : Dev nD) : CellTallies nD τ sig Unit := tallyAt (barCell j) () 1
abbrev tDma (k : Fin 4) (c j : Dev nD) : CellTallies nD τ sig Unit := tallyAt (dcell k j c) () N

/-- A unit to every other barrier cell, and a block to every other device's two receive cells. -/
def O₀ (c : Dev nD) : CellTallies nD τ sig Unit := dues c (tBar c) 0 + dues c (tDma 1 c) 0 + dues c (tDma 3 c) 0

def L (g : GSem nD τ sig) : Finset Unit := if g.1.2 = .tc then {()} else ∅
/-- Barrier cells at 1, receive cells of the reduce-scatter at 2, those of the all-gather at 3, the rest at 0. -/
def lv (g : GSem nD τ sig) (_ : Unit) : ℕ := match g.2 with
  | .reg _ => 1
  | .dma n => if n.val < 3 then 0 else if knd n = 1 then 2 else if knd n = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_dma (k : Fin 4) (c j : Dev nD) : lv (dcell k c j) () = if k.val = 1 then 2 else if k.val = 3 then 3 else 0 := by
  show (if (dsem k j).val < 3 then 0 else if knd (dsem k j) = 1 then 2 else if knd (dsem k j) = 3 then 3 else 0) = _
  rw [if_neg (Nat.not_lt.mpr (dsem_ge k j)), knd_dsem]

theorem dues_step {c j : Dev nD} (h : c ≠ j) (T : Dev nD → CellTallies nD τ sig Unit) :
    dues c T j.val = dues c T (j.val + 1) + T j := by
  have hj : j ∈ Finset.univ.erase c := Finset.mem_erase.mpr ⟨h.symm, Finset.mem_univ _⟩
  unfold dues
  rw [← Finset.sum_erase_add _ _ hj, ← Finset.sum_erase_add (s := Finset.univ.erase c) (a := j) _ hj, if_neg (Nat.lt_irrefl _), if_pos (Nat.lt_succ_self _),
    add_zero]
  congr 1
  refine Finset.sum_congr rfl fun x hx => ?_
  have hne : x.val ≠ j.val := fun e => (Finset.mem_erase.mp hx).1 (Fin.ext e)
  by_cases hlt : x.val < j.val
  · rw [if_pos hlt, if_pos (by omega)]
  · rw [if_neg hlt, if_neg (by omega)]
theorem dues_skip (c : Dev nD) (T : Dev nD → CellTallies nD τ sig Unit) : dues c T c.val = dues c T (c.val + 1) := by
  unfold dues
  refine Finset.sum_congr rfl fun x hx => ?_
  have hne : x.val ≠ c.val := fun e => (Finset.mem_erase.mp hx).1 (Fin.ext e)
  by_cases hlt : x.val < c.val
  · rw [if_pos hlt, if_pos (by omega)]
  · rw [if_neg hlt, if_neg (by omega)]
theorem dues_done (c : Dev nD) (T : Dev nD → CellTallies nD τ sig Unit) : dues c T 8 = 0 :=
  Finset.sum_eq_zero fun x _ => if_pos x.isLt
theorem dues_zero (c : Dev nD) (T : Dev nD → CellTallies nD τ sig Unit) : dues c T 0 = ∑ j ∈ Finset.univ.erase c, T j :=
  Finset.sum_congr rfl fun _ _ => if_neg (Nat.not_lt_zero _)

/-- Whatever is still owed is one of the other devices' tallies. -/
theorem dues_pos {c : Dev nD} {T : Dev nD → CellTallies nD τ sig Unit} {k : ℕ} {g : GSem nD τ sig} {u : Unit} (h : 0 < dues c T k g u) :
    ∃ j, c ≠ j ∧ 0 < T j g u := by
  unfold dues at h
  rw [Finset.sum_apply, Finsupp.finset_sum_apply] at h
  obtain ⟨j, hj, hp⟩ := Finset.exists_ne_zero_of_sum_ne_zero (Nat.pos_iff_ne_zero.mp h)
  refine ⟨j, (Finset.mem_erase.mp hj).1.symm, ?_⟩
  by_cases hk : j.val < k
  · rw [if_pos hk] at hp; exact absurd rfl hp
  · rw [if_neg hk] at hp; exact Nat.pos_of_ne_zero hp

theorem tally_pos {g g' : GSem nD τ sig} {u : Unit} {n : ℕ} (h : 0 < tallyAt g () n g' u) : g' = g := by
  rw [tallyAt_apply] at h
  by_cases e : g' = g ∧ u = ()
  · exact e.1
  · rw [if_neg e] at h; exact absurd h (Nat.lt_irrefl 0)

/-- A wait at a level below every cell that is owed. -/
theorem mayWait_of (c : Dev nD) (sm : SemLoc sig) (O : CellTallies nD τ sig Unit)
    (hO : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp])
    (fun g u hg => (hO g u hg).2)

end Cert.KernelIdeal.Talk

end
-- ==== Proof.Slots.lean ====
/- Where the slots and rows lie in their buffers, how they make up the whole buffer, and what a landing or a store
   leaves in a slot. -/
module

public import proofs.«01_k».proof.Proof.Proto

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

/-! ## Places -/

theorem unit_slot_emb (s : Dev nD) (y : S1x32x512.Idx) :
    (Rect.unit (s := S8x32x512) ![s.val, 0, 0] S1x32x512.size (inb_slot s)).emb y = ix3 s (y 1) (y 2) := by
  have h0 : (y 0).val < 1 := (y 0).isLt
  funext a
  match a with
  | ⟨0, _⟩ => exact Fin.ext (by show s.val + 1 * (y 0).val = s.val; omega)
  | ⟨1, _⟩ => exact Fin.ext (by show 0 + 1 * (y 1).val = (y 1).val; omega)
  | ⟨2, _⟩ => exact Fin.ext (by show 0 + 1 * (y 2).val = (y 2).val; omega)

theorem unit_rows_emb (s : Dev nD) (y : S32x512.Idx) :
    (Rect.unit (s := S256x512) ![32 * s.val, 0] S32x512.size (inb_rows s)).emb y
      = ix2 ⟨32 * s.val + (y 0).val, by have h : s.val < 8 := s.isLt; have h1 : (y 0).val < 32 := (y 0).isLt; show _ < 256; omega⟩ (y 1) := by
  funext a
  match a with
  | ⟨0, _⟩ => exact Fin.ext (by show 32 * s.val + 1 * (y 0).val = 32 * s.val + (y 0).val; omega)
  | ⟨1, _⟩ => exact Fin.ext (by show 0 + 1 * (y 1).val = (y 1).val; omega)

theorem squeeze_idx (h : S32x512.numel = S1x32x512.numel) (x : S32x512.Idx) :
    Shape.reshapeEquiv h x = (ix3 0 (x 0) (x 1) : S1x32x512.Idx) :=
  Shape.reshapeEquiv_eq_of_rowMajor h (by
    rw [Shape.rowMajor_val_three, Shape.rowMajor_val_two]
    show ((0 : ℕ) * 32 + (x 0).val) * 512 + (x 1).val = (x 0).val * 512 + (x 1).val; omega)

theorem unsqueeze_idx (h : S1x32x512.numel = S32x512.numel) (y : S1x32x512.Idx) :
    Shape.reshapeEquiv h y = (ix2 (y 1) (y 2) : S32x512.Idx) :=
  Shape.reshapeEquiv_eq_of_rowMajor h (by
    rw [Shape.rowMajor_val_three, Shape.rowMajor_val_two]
    have h0 : (y 0).val < 1 := (y 0).isLt
    show (y 1).val * 512 + (y 2).val = ((y 0).val * 32 + (y 1).val) * 512 + (y 2).val; omega)

theorem emb_slot1 (s : Dev nD) (x : S32x512.Idx) : (slotM r1M s).view.emb x = (ix3 s (x 0) (x 1) : S8x32x512.Idx) := by
  show (Rect.unit (s := S8x32x512) ![s.val, 0, 0] S1x32x512.size (inb_slot s)).emb (Shape.reshapeEquiv _ x) = _
  rw [squeeze_idx, unit_slot_emb]; rfl
theorem emb_slot2 (s : Dev nD) (x : S32x512.Idx) : (slotM r2M s).view.emb x = (ix3 s (x 0) (x 1) : S8x32x512.Idx) := by
  show (Rect.unit (s := S8x32x512) ![s.val, 0, 0] S1x32x512.size (inb_slot s)).emb (Shape.reshapeEquiv _ x) = _
  rw [squeeze_idx, unit_slot_emb]; rfl
theorem emb_rows (s : Dev nD) (x : S32x512.Idx) : (rowsM s).view.emb x
    = (ix2 ⟨32 * s.val + (x 0).val, by have h : s.val < 8 := s.isLt; have h1 : (x 0).val < 32 := (x 0).isLt; show _ < 256; omega⟩ (x 1) : S256x512.Idx) := by
  show (Rect.unit (s := S256x512) ![32 * s.val, 0] S32x512.size (inb_rows s)).emb x = _
  rw [unit_rows_emb]; rfl

/-- The elements of slot `s`: those whose first coordinate is `s`. -/
theorem mem_slot1 (s : Dev nD) (i : S8x32x512.Idx) : i ∈ (slotM r1M s).view.set ↔ (i 0).val = s.val := by
  show i ∈ Finset.univ.map (slotM r1M s).view.emb ↔ _
  simp only [Finset.mem_map, Finset.mem_univ, true_and]
  constructor
  · rintro ⟨x, rfl⟩; rw [emb_slot1]
  · intro h
    refine ⟨ix2 (i 1) (i 2), ?_⟩
    rw [emb_slot1, eq_ix3 i]
    have hs : s = i 0 := Fin.ext h.symm
    rw [hs]; rfl
theorem set_slots (s : Dev nD) : (slotM r2M s).view.set = (slotM r1M s).view.set := by
  ext i
  show i ∈ Finset.univ.map (slotM r2M s).view.emb ↔ i ∈ Finset.univ.map (slotM r1M s).view.emb
  rw [show (slotM r2M s).view.emb = (slotM r1M s).view.emb from rfl]
theorem mem_slot2 (s : Dev nD) (i : S8x32x512.Idx) : i ∈ (slotM r2M s).view.set ↔ (i 0).val = s.val := by
  rw [set_slots]; exact mem_slot1 s i
theorem mem_rows (s : Dev nD) (i : S256x512.Idx) : i ∈ (rowsM s).view.set ↔ (i 0).val / 32 = s.val := by
  show i ∈ Finset.univ.map (rowsM s).view.emb ↔ _
  simp only [Finset.mem_map, Finset.mem_univ, true_and]
  constructor
  · rintro ⟨x, rfl⟩; rw [emb_rows]
    have h1 : (x 0).val < 32 := (x 0).isLt
    show (32 * s.val + (x 0).val) / 32 = s.val; omega
  · intro h
    refine ⟨ix2 ⟨(i 0).val % 32, Nat.mod_lt _ (by decide)⟩ (i 1), ?_⟩
    rw [emb_rows]
    refine (?_ : _ = ix2 (i 0) (i 1)).trans (eq_ix2 i).symm
    congr 1
    exact Fin.ext (by show 32 * s.val + (i 0).val % 32 = (i 0).val; omega)

/-! ## The whole buffer is its slots -/

theorem rows_all : (Finset.univ.biUnion fun j : Dev nD => (rowsM j).view.set) = (Finset.univ : Finset S256x512.Idx) :=
  Finset.eq_univ_of_forall fun i => by
    have h0 : (i 0).val < 256 := (i 0).isLt
    exact Finset.mem_biUnion.mpr ⟨⟨(i 0).val / 32, by show _ < 8; omega⟩, Finset.mem_univ _, (mem_rows _ i).mpr rfl⟩
theorem slots1_all : (Finset.univ.biUnion fun j : Dev nD => (slotM r1M j).view.set) = (Finset.univ : Finset S8x32x512.Idx) :=
  Finset.eq_univ_of_forall fun i => Finset.mem_biUnion.mpr ⟨i 0, Finset.mem_univ _, (mem_slot1 _ i).mpr rfl⟩
theorem slots2_all : (Finset.univ.biUnion fun j : Dev nD => (slotM r2M j).view.set) = (Finset.univ : Finset S8x32x512.Idx) :=
  Finset.eq_univ_of_forall fun i => Finset.mem_biUnion.mpr ⟨i 0, Finset.mem_univ _, (mem_slot2 _ i).mpr rfl⟩

theorem rows_whole (c : Dev nD) (f : Vec F S256x512 .bf16) :
    ((c : Thread nD τ).loc cc0_scratch0 ↦{fullShare} f : sProp 𝕄) = bigSep Finset.univ (fun j => rowsPt c j f) := by
  have h : ((c : Thread nD τ).loc cc0_scratch0 ↦[Finset.univ.biUnion fun j : Dev nD => (rowsM j).view.set]{fullShare} f : sProp 𝕄)
      = bigSep Finset.univ (fun j => rowsPt c j f) :=
    pointsTo_biUnion (ℓ := (c : Thread nD τ).loc cc0_scratch0) (q := fullShare) (f := f) Finset.univ (fun j : Dev nD => (rowsM j).view.set)
      (fun s _ t _ hst => Finset.disjoint_left.mpr fun i hi hj => hst (Fin.ext (((mem_rows s i).mp hi).symm.trans ((mem_rows t i).mp hj))))
  rw [rows_all] at h
  exact h
theorem slots1_whole (c : Dev nD) (f : Vec F S8x32x512 .bf16) :
    ((c : Thread nD τ).loc cc0_scratch1 ↦{fullShare} f : sProp 𝕄) = bigSep Finset.univ (fun j => slot1 c j f) := by
  have h : ((c : Thread nD τ).loc cc0_scratch1 ↦[Finset.univ.biUnion fun j : Dev nD => (slotM r1M j).view.set]{fullShare} f : sProp 𝕄)
      = bigSep Finset.univ (fun j => slot1 c j f) :=
    pointsTo_biUnion (ℓ := (c : Thread nD τ).loc cc0_scratch1) (q := fullShare) (f := f) Finset.univ (fun j : Dev nD => (slotM r1M j).view.set)
      (fun s _ t _ hst => Finset.disjoint_left.mpr fun i hi hj => hst (Fin.ext (((mem_slot1 s i).mp hi).symm.trans ((mem_slot1 t i).mp hj))))
  rw [slots1_all] at h
  exact h
theorem slots2_whole (c : Dev nD) (f : Vec F S8x32x512 .bf16) :
    ((c : Thread nD τ).loc cc0_scratch2 ↦{fullShare} f : sProp 𝕄) = bigSep Finset.univ (fun j => slot2 fullShare c j f) := by
  have h : ((c : Thread nD τ).loc cc0_scratch2 ↦[Finset.univ.biUnion fun j : Dev nD => (slotM r2M j).view.set]{fullShare} f : sProp 𝕄)
      = bigSep Finset.univ (fun j => slot2 fullShare c j f) :=
    pointsTo_biUnion (ℓ := (c : Thread nD τ).loc cc0_scratch2) (q := fullShare) (f := f) Finset.univ (fun j : Dev nD => (slotM r2M j).view.set)
      (fun s _ t _ hst => Finset.disjoint_left.mpr fun i hi hj => hst (Fin.ext (((mem_slot2 s i).mp hi).symm.trans ((mem_slot2 t i).mp hj))))
  rw [slots2_all] at h
  exact h

/-- A slot's eight shares. -/
theorem slot2_leaves (c s : Dev nD) (f : Vec F S8x32x512 .bf16) :
    (slot2 fullShare c s f : sProp 𝕄) = bigSep Finset.univ (fun t => slot2 (lf t) c s f) :=
  ShareLeaves.pointsTo_leaves _ _ 3 fullShare

/-! ## What a landing leaves -/

section Contents

variable (pb : Dev nD → Vec F S256x512 .bf16)

/-- Block `t` of device `c`'s product, landed on slot `c` of device `t`. -/
theorem land1 (c t : Dev nD) (fd : Vec F S8x32x512 .bf16) :
    ((slotM r1M c).view.loc (t : Thread nD τ) ↦[(slotM r1M c).view.set]{fullShare}
        ((slotM r1M c).view.write (Elt F) fd ((rowsM t).view.read (Elt F) (pb c)) Finset.univ) : sProp 𝕄) = slot1 t c (rb1 pb t) := by
  refine pointsTo_congr fun i hi => ?_
  obtain ⟨x, -, rfl⟩ := Finset.mem_map.mp hi
  rw [View.write_emb_of_mem _ _ (Finset.mem_univ x), View.read_apply]
  show pb c ((rowsM t).view.emb x) = rb1 pb t ((slotM r1M c).view.emb x)
  rw [emb_slot1, emb_rows]
  rfl

/-- Device `c`'s reduced block, landed on slot `c` of device `t`. -/
theorem land2 (c t : Dev nD) (fd : Vec F S8x32x512 .bf16) :
    ((slotM r2M c).view.loc (t : Thread nD τ) ↦[(slotM r2M c).view.set]{fullShare}
        ((slotM r2M c).view.write (Elt F) fd ((slotM r2M c).view.read (Elt F) (rb2 pb)) Finset.univ) : sProp 𝕄) = slot2 fullShare t c (rb2 pb) := by
  refine pointsTo_congr fun i hi => ?_
  obtain ⟨x, -, rfl⟩ := Finset.mem_map.mp hi
  rw [View.write_emb_of_mem _ _ (Finset.mem_univ x), View.read_apply]
  rfl

/-! ## What the core's own loads and stores see -/

/-- A load of a slot reads the slot. -/
theorem read_slot1 (s : Dev nD) (f : Vec F S8x32x512 .bf16) :
    (r1M.access (Rect.unit (s := S8x32x512) ![s.val, 0, 0] S1x32x512.size (inb_slot s))).read (Elt F) f = sl f s := by
  funext y
  show f ((Rect.unit (s := S8x32x512) ![s.val, 0, 0] S1x32x512.size (inb_slot s)).emb y) = _
  rw [unit_slot_emb]; rfl
theorem read_slot2 (s : Dev nD) (f : Vec F S8x32x512 .bf16) :
    (r2M.access (Rect.unit (s := S8x32x512) ![s.val, 0, 0] S1x32x512.size (inb_slot s))).read (Elt F) f = sl f s := by
  funext y
  show f ((Rect.unit (s := S8x32x512) ![s.val, 0, 0] S1x32x512.size (inb_slot s)).emb y) = _
  rw [unit_slot_emb]; rfl

/-- The elements a load or store of a slot touches. -/
theorem access_slot1 (s : Dev nD) :
    (r1M.access (Rect.unit (s := S8x32x512) ![s.val, 0, 0] S1x32x512.size (inb_slot s))).set = (slotM r1M s).view.set :=
  (View.set_reshape _ _).symm
theorem access_slot2 (s : Dev nD) :
    (r2M.access (Rect.unit (s := S8x32x512) ![s.val, 0, 0] S1x32x512.size (inb_slot s))).set = (slotM r2M s).view.set :=
  (View.set_reshape _ _).symm

/-- Storing block `c` of the own product to the own slot. -/
theorem store1 (c : Dev nD) (f : Vec F S8x32x512 .bf16) :
    ((slotM r1M c).view.loc (c : Thread nD τ) ↦[(slotM r1M c).view.set]{fullShare}
      ((r1M.access (Rect.unit (s := S8x32x512) ![c.val, 0, 0] S1x32x512.size (inb_slot c))).write (Elt F) f
        (k0_pay22 ((pM.access (Rect.unit (s := S256x512) ![32 * c.val, 0] S32x512.size (inb_rows c))).read (Elt F) (pb c))) Finset.univ) : sProp 𝕄)
      = slot1 c c (rb1 pb c) := by
  refine pointsTo_congr fun i hi => ?_
  rw [← access_slot1] at hi
  obtain ⟨y, -, rfl⟩ := Finset.mem_map.mp hi
  rw [View.write_emb_of_mem _ _ (Finset.mem_univ y)]
  show pb c ((Rect.unit (s := S256x512) ![32 * c.val, 0] S32x512.size (inb_rows c)).emb (Shape.reshapeEquiv _ y))
    = rb1 pb c ((Rect.unit (s := S8x32x512) ![c.val, 0, 0] S1x32x512.size (inb_slot c)).emb y)
  rw [unit_slot_emb, unsqueeze_idx, unit_rows_emb]
  rfl

/-- Storing the reduced block to the own slot. -/
theorem store2 (c : Dev nD) (f : Vec F S8x32x512 .bf16) :
    ((slotM r2M c).view.loc (c : Thread nD τ) ↦[(slotM r2M c).view.set]{fullShare}
      ((r2M.access (Rect.unit (s := S8x32x512) ![c.val, 0, 0] S1x32x512.size (inb_slot c))).write (Elt F) f (accOf pb c) Finset.univ) : sProp 𝕄)
      = slot2 fullShare c c (rb2 pb) := by
  refine pointsTo_congr fun i hi => ?_
  rw [← access_slot2] at hi
  obtain ⟨y, -, rfl⟩ := Finset.mem_map.mp hi
  rw [View.write_emb_of_mem _ _ (Finset.mem_univ y)]
  show accOf pb c y = rb2 pb ((Rect.unit (s := S8x32x512) ![c.val, 0, 0] S1x32x512.size (inb_slot c)).emb y)
  rw [unit_slot_emb]
  have hy : y = ix3 0 (y 1) (y 2) := by
    refine (eq_ix3 y).trans ?_
    congr 1
    exact Fin.ext (by have h0 : (y 0).val < 1 := (y 0).isLt; show (y 0).val = 0; omega)
  conv_lhs => rw [hy]
  rfl

end Contents

end Cert.KernelIdeal.Talk

end
-- ==== Proof.Steps.lean ====
/- The steps of the conversation, one for every kind of operation, and how a phase of them runs over the other devices. -/
module

public import proofs.«01_k».proof.Proof.Slots

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

/-! ## One state per other device -/

/-- Over the other devices: those below `k` are done. -/
def fam (c : Dev nD) (Φ Ψ : Dev nD → sProp 𝕄) (k : ℕ) : sProp 𝕄 :=
  bigSep (Finset.univ.erase c) fun j => if j.val < k then Ψ j else Φ j

section Fam

theorem fam_zero {c : Dev nD} {Φ Ψ : Dev nD → sProp 𝕄} : fam c Φ Ψ 0 = bigSep (Finset.univ.erase c) Φ :=
  bigSep_congr fun j _ => if_neg (Nat.not_lt_zero _)
theorem fam_done {c : Dev nD} {Φ Ψ : Dev nD → sProp 𝕄} : fam c Φ Ψ 8 = bigSep (Finset.univ.erase c) Ψ :=
  bigSep_congr fun j _ => if_pos j.isLt
theorem fam_skip {c : Dev nD} {Φ Ψ : Dev nD → sProp 𝕄} : fam c Φ Ψ c.val = fam c Φ Ψ (c.val + 1) := by
  refine bigSep_congr fun x hx => ?_
  have hne : x.val ≠ c.val := fun e => (Finset.mem_erase.mp hx).1 (Fin.ext e)
  by_cases hlt : x.val < c.val
  · rw [if_pos hlt, if_pos (by omega)]
  · rw [if_neg hlt, if_neg (by omega)]
theorem fam_step {c j : Dev nD} {Φ Ψ : Dev nD → sProp 𝕄} (h : c ≠ j) : fam c Φ Ψ j.val ⊢ iprop(Φ j ∗ (Ψ j -∗ fam c Φ Ψ (j.val + 1))) := by
  have hj : j ∈ Finset.univ.erase c := Finset.mem_erase.mpr ⟨h.symm, Finset.mem_univ _⟩
  have he : (bigSep ((Finset.univ.erase c).erase j) fun x => if x.val < j.val then Ψ x else Φ x)
      = bigSep ((Finset.univ.erase c).erase j) fun x => if x.val < j.val + 1 then Ψ x else Φ x :=
    bigSep_congr fun x hx => by
      have hne : x.val ≠ j.val := fun e => (Finset.mem_erase.mp hx).1 (Fin.ext e)
      by_cases hlt : x.val < j.val
      · rw [if_pos hlt, if_pos (by omega)]
      · rw [if_neg hlt, if_neg (by omega)]
  unfold fam
  rw [bigSep_erase hj, bigSep_erase (Φ := fun x : Dev nD => if x.val < j.val + 1 then Ψ x else Φ x) hj, he, if_neg (Nat.lt_irrefl _),
    if_pos (Nat.lt_succ_self _)]
  generalize bigSep ((Finset.univ.erase c).erase j) (fun x : Dev nD => if x.val < j.val + 1 then Ψ x else Φ x) = X
  change iprop(Φ j ∗ X) ⊢ iprop(Φ j ∗ (Ψ j -∗ iprop(Ψ j ∗ X)))
  iintro ⟨HΦ, Hr⟩
  isplitl [HΦ]; · iexact HΦ
  iintro HΨ
  isplitl [HΨ]; · iexact HΨ
  iexact Hr

end Fam

/-- A core that owes `O` and some record of waits. -/
abbrev Ow (c : Dev nD) (O : CellTallies nD τ sig Unit) : sProp 𝕄 := iprop(∃ W, owes (c : Thread nD τ) O W)

abbrev 𝒱₀ : Variants := Variants.none

/-- What it takes to run a part of the body on device `c`. -/
abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wpB_seq {c : Dev nD} {α β : Type} {p : Prog (TpuEff nD τ sig (Elt F) Λ₀ .tc) α} {k : α → Prog (TpuEff nD τ sig (Elt F) Λ₀ .tc) β}
    {P : sProp 𝕄} {Mid : α → sProp 𝕄} {Q : β → sProp 𝕄} (hp : P ⊢ wpB c p Mid) (hk : ∀ a, Mid a ⊢ wpB c (k a) Q) : P ⊢ wpB c (p >>= k) Q := by
  unfold wpB
  rw [wp_bind]
  exact hp.trans (wp_mono _ _ _ hk)
theorem wpB_frame {c : Dev nD} {α : Type} {p : Prog (TpuEff nD τ sig (Elt F) Λ₀ .tc) α} {P R : sProp 𝕄} {Q : α → sProp 𝕄}
    (hp : P ⊢ wpB c p Q) : iprop(P ∗ R) ⊢ wpB c p (fun a => iprop(Q a ∗ R)) :=
  (sep_mono_left hp).trans (wp_frame_r _ _ _)

/-- A guarded operation of a phase: the step at device `j`, skipped where `j` is the device itself. -/
theorem guard {c : Dev nD} {I R : sProp 𝕄} [BI.Persistent I] {Φ Ψ : Dev nD → sProp 𝕄} {O : ℕ → CellTallies nD τ sig Unit} {α : Type}
    (j : Dev nD) {P : Prop} [Decidable P] (hP : P ↔ c ≠ j) {a : P → Prog (TpuEff nD τ sig (Elt F) Λ₀ .tc) PUnit}
    {rest : Prog (TpuEff nD τ sig (Elt F) Λ₀ .tc) α} {Q : α → sProp 𝕄} (hO : O c.val = O (c.val + 1))
    (step : ∀ h : P, iprop(I ∗ Φ j ∗ Ow c (O j.val)) ⊢ wpB c (a h) (fun _ => iprop(Ψ j ∗ Ow c (O (j.val + 1)))))
    (hk : iprop(I ∗ fam c Φ Ψ (j.val + 1) ∗ Ow c (O (j.val + 1)) ∗ R) ⊢ wpB c rest Q) :
    iprop(I ∗ fam c Φ Ψ j.val ∗ Ow c (O j.val) ∗ R) ⊢ wpB c (if h : P then a h >>= fun _ => rest else rest) Q := by
  by_cases h : P
  · rw [dif_pos h]
    refine BIBase.Entails.trans ?_ (wpB_seq (wpB_frame (R := iprop(I ∗ (Ψ j -∗ fam c Φ Ψ (j.val + 1)) ∗ R)) (step h)) fun _ => BIBase.Entails.trans ?_ hk)
    · iintro ⟨#HI, Hf, HO, HR⟩
      ihave Hf' := (fam_step (hP.mp h)) $$ Hf
      icases Hf' with ⟨HΦ, Hf⟩
      isplitl [HΦ HO]
      · isplitr; · iexact HI
        isplitl [HΦ] <;> iassumption
      isplitr; · iexact HI
      isplitl [Hf] <;> iassumption
    · iintro ⟨⟨HΨ, HO⟩, #HI, Hf, HR⟩
      isplitr; · iexact HI
      isplitl [Hf HΨ]; · iapply Hf; iexact HΨ
      isplitl [HO] <;> iassumption
  · have hc : c = j := by by_contra hne; exact h (hP.mpr hne)
    subst hc
    rw [dif_neg h, fam_skip, hO]
    exact hk

/-! ## What every step may consult -/

section Contents

variable (pb : Dev nD → Vec F S256x512 .bf16)

def cellEmb : Dev nD ⊕ (Dev nD × Fin 4 × Dev nD) → GSem nD τ sig
  | .inl d => barCell d
  | .inr x => dcell x.2.1 x.1 x.2.2

/-- Every cell's invariant, every barrier cell open, the own DMA cells open, and the levels. -/
def Ctx (K : GSem nD τ sig → ℕ) (c : Dev nD) : sProp 𝕄 :=
  iprop((bigSep Finset.univ fun x => cellInv ER (talkRd pb) (K (cellEmb x)) (cellEmb x))
    ∗ (bigSep Finset.univ fun d : Dev nD => reached ER (barCell d) 0)
    ∗ (bigSep Finset.univ fun kj : Fin 4 × Dev nD => reached ER (dcell kj.1 c kj.2) 0)
    ∗ levAts L lv)

instance Ctx_persistent (K : GSem nD τ sig → ℕ) (c : Dev nD) : BI.Persistent (Ctx pb K c) := by unfold Ctx; infer_instance

section

variable (K : GSem nD τ sig → ℕ) (c : Dev nD)

theorem ctx_inv (x : Dev nD ⊕ (Dev nD × Fin 4 × Dev nD)) : Ctx pb K c ⊢ cellInv ER (talkRd pb) (K (cellEmb x)) (cellEmb x) := by
  unfold Ctx
  iintro ⟨H, -⟩
  iapply (show (bigSep Finset.univ fun x => (cellInv ER (talkRd pb) (K (cellEmb x)) (cellEmb x) : sProp 𝕄)) ⊢ cellInv ER (talkRd pb) (K (cellEmb x)) (cellEmb x)
    from bigSep_elim (Finset.mem_univ x)) $$ H
theorem ctx_bar (d : Dev nD) : Ctx pb K c ⊢ cellInv ER (talkRd pb) (K (barCell d)) (barCell d) := ctx_inv pb K c (.inl d)
theorem ctx_dma (k : Fin 4) (d j : Dev nD) : Ctx pb K c ⊢ cellInv ER (talkRd pb) (K (dcell k d j)) (dcell k d j) := ctx_inv pb K c (.inr (d, k, j))
theorem ctx_reached_bar (d : Dev nD) : Ctx pb K c ⊢ reached ER (barCell d) 0 := by
  unfold Ctx
  iintro ⟨-, H, -⟩
  iapply (show (bigSep Finset.univ fun d : Dev nD => (reached ER (barCell d) 0 : sProp 𝕄)) ⊢ reached ER (barCell d) 0 from bigSep_elim (Finset.mem_univ d)) $$ H
theorem ctx_reached (k : Fin 4) (j : Dev nD) : Ctx pb K c ⊢ reached ER (dcell k c j) 0 := by
  unfold Ctx
  iintro ⟨-, -, H, -⟩
  iapply (show (bigSep Finset.univ fun kj : Fin 4 × Dev nD => (reached ER (dcell kj.1 c kj.2) 0 : sProp 𝕄)) ⊢ reached ER (dcell k c j) 0
    from bigSep_elim (Φ := fun kj : Fin 4 × Dev nD => (reached ER (dcell kj.1 c kj.2) 0 : sProp 𝕄)) (Finset.mem_univ (k, j))) $$ H
theorem ctx_lev : Ctx pb K c ⊢ levAts L lv := by
  unfold Ctx
  iintro ⟨-, -, -, H⟩
  iexact H

end

/-! ## The signals -/

/-- What the core still owes after its signals up to `k`. -/
def oA (c : Dev nD) (k : ℕ) : CellTallies nD τ sig Unit := (dues c (tDma 1 c) 0 + dues c (tDma 3 c) 0) + dues c (tBar c) k
theorem oA_skip (c : Dev nD) : oA c c.val = oA c (c.val + 1) := by unfold oA; rw [dues_skip c (tBar c)]
theorem oA_step {c j : Dev nD} (h : c ≠ j) : oA c j.val = oA c (j.val + 1) + tallyAt (barCell j) () 1 := by
  unfold oA; rw [dues_step h (tBar c), ← add_assoc]

/-- Before the signal to `j`: the right to pay it, and the own slots `j` will write. -/
def preA (c j : Dev nD) : sProp 𝕄 := iprop(dutyTok ER (barCell j) 0 c ∗ (∃ f, slot1 c j f) ∗ (∃ f, slot2 fullShare c j f))
def done (_c _j : Dev nD) : sProp 𝕄 := iprop(emp)

theorem signal_step (K : GSem nD τ sig → ℕ) {c j : Dev nD} (h : c ≠ j) {d : Dev nD} (hd : d = j) :
    iprop(Ctx pb K c ∗ preA c j ∗ Ow c (oA c j.val))
      ⊢ wpB c (semSignalWord d barS 1#32) (fun _ => iprop(done (F := F) c j ∗ Ow c (oA c (j.val + 1)))) := by
  subst hd
  unfold preA done wpB semSignalWord
  iintro ⟨#HI, ⟨Htok, H1, H2⟩, ⟨%W, HO⟩⟩
  iapply (Rounds.wp_signal 𝒱₀ ER (talkRd pb) (c : Thread nD τ) none (dst := (d : Thread nD τ)) (sem := barS) (r := 0) (d := c) (κ := K (barCell d))
      (by rw [duties_bar]; exact Finset.mem_erase.mpr ⟨h, Finset.mem_univ _⟩) (amount_bar pb d c) () (oA c (d.val + 1)) (oA_step h))
    $$ [HO Htok H1 H2]
  · isplitr; · iapply (ctx_bar pb K c d); iexact HI
    isplitl [HO]; · iexact HO
    isplitl [Htok]; · iexact Htok
    isplitl [H1 H2]
    · rw [payload_bar]; unfold barPay
      isplitl [H1]; · iexact H1
      isplitl [H2]; · iexact H2
      isplitr; · iapply (ctx_reached pb K c 1 d); iexact HI
      iapply (ctx_reached pb K c 3 d); iexact HI
    iapply (ctx_reached_bar pb K c d); iexact HI
  iintro HO
  rw [wp_ret]
  imodintro
  isplitr; · iempintro
  iexists W; iexact HO

/-! ## What is still owed, phase by phase, and what may be waited for -/

/-- What the core owes beside the sends of the reduce-scatter up to `k`. -/
def oC (c : Dev nD) (k : ℕ) : CellTallies nD τ sig Unit := dues c (tDma 3 c) 0 + dues c (tDma 1 c) k
def oG (c : Dev nD) (k : ℕ) : CellTallies nD τ sig Unit := dues c (tDma 3 c) k
theorem oA_done (c : Dev nD) : oA c 8 = oC c 0 := by unfold oA oC; rw [dues_done, add_zero, add_comm]
theorem oC_done (c : Dev nD) : oC c 8 = oG c 0 := by unfold oC oG; rw [dues_done, add_zero]
theorem oG_done (c : Dev nD) : oG c 8 = 0 := dues_done c _
theorem oA_zero (c : Dev nD) : oA c 0 = O₀ c := by unfold oA O₀; rw [add_comm, ← add_assoc]
theorem oC_skip (c : Dev nD) : oC c c.val = oC c (c.val + 1) := by unfold oC; rw [dues_skip c (tDma 1 c)]
theorem oG_skip (c : Dev nD) : oG c c.val = oG c (c.val + 1) := dues_skip c (tDma 3 c)
theorem oC_step {c j : Dev nD} (h : c ≠ j) : oC c j.val = oC c (j.val + 1) + tallyAt (dcell 1 j c) () N := by
  unfold oC; rw [dues_step h (tDma 1 c), ← add_assoc]
theorem oG_step {c j : Dev nD} (h : c ≠ j) : oG c j.val = oG c (j.val + 1) + tallyAt (dcell 3 j c) () N := dues_step h (tDma 3 c)

theorem oG_pos {c : Dev nD} {k : ℕ} {g : GSem nD τ sig} {u : Unit} (h : 0 < oG c k g u) : g.1.2 = .tc ∧ lv g () = 3 := by
  obtain ⟨j, -, hp⟩ := dues_pos h
  rw [tally_pos hp]
  exact ⟨rfl, lv_dma 3 j c⟩
theorem oC_pos {c : Dev nD} {k : ℕ} {g : GSem nD τ sig} {u : Unit} (h : 0 < oC c k g u) : g.1.2 = .tc ∧ 1 < lv g () := by
  unfold oC at h
  rw [Pi.add_apply, Finsupp.add_apply] at h
  rcases Nat.add_pos_iff_pos_or_pos.mp h with h | h
  · obtain ⟨h1, h2⟩ := oG_pos (k := 0) h
    exact ⟨h1, by rw [h2]; decide⟩
  · obtain ⟨j, -, hp⟩ := dues_pos h
    rw [tally_pos hp]
    exact ⟨rfl, by rw [lv_dma]; decide⟩

theorem may_bar (c : Dev nD) : (levAts L lv : sProp 𝕄) ⊢ MayWait (c : Thread nD τ) (.reg barS) () (oC c 0) :=
  mayWait_of c _ _ fun g u h => oC_pos h
theorem may_dma (k : Fin 4) (hk : k.val ≠ 3) (c j : Dev nD) (n : ℕ) : (levAts L lv : sProp 𝕄) ⊢ MayWait (c : Thread nD τ) (.dma (dsem k j)) () (oG c n) :=
  mayWait_of c _ _ fun g u h => ⟨(oG_pos h).1, by
    rw [(oG_pos h).2]
    show lv (dcell k c j) () < 3
    rw [lv_dma, if_neg hk]; split <;> decide⟩

/-! ## The waits -/

theorem bar_step (K : GSem nD τ sig → ℕ) (c : Dev nD) :
    iprop(Ctx pb K c ∗ (cred (tallyAt (barCell c) () 7) ∗ atPos ER (barCell c) 0 ∅ 0) ∗ Ow c (oC c 0))
      ⊢ wpB c (semWaitWord barS 7#32) (fun _ => iprop((bigSep (Finset.univ.erase c) (fun d => barPay (F := F) c d) ∗ atPos ER (barCell c) (0 + 1) ∅ 0)
          ∗ Ow c (oC c 0))) := by
  unfold wpB semWaitWord
  iintro ⟨#HI, ⟨Hc, Hat⟩, ⟨%W, HO⟩⟩
  iapply (Rounds.wp_wait_rest_token 𝒱₀ ER (talkRd pb) (c : Thread nD τ) none (κ := K (barCell c))
      (wpE_semWait_eq 𝒱₀ (c : Thread nD τ) none Set.univ) (Set.mem_univ _) () (O := oC c 0) (W := W) (R := 0) (m := 0) (T := ∅)
      ((Nat.zero_add 7).trans (expect_bar pb c).symm)) $$ [Hc HO Hat]
  · isplitr; · iapply (ctx_bar pb K c c); iexact HI
    isplitl [Hc]; · iexact Hc
    isplitl [HO]; · iexact HO
    isplitr
    · iapply (may_bar c); iapply (ctx_lev pb K c); iexact HI
    iexact Hat
  iintro ⟨HO, Hat, -, Hpay⟩
  rw [wp_ret]
  imodintro
  isplitr [HO]
  · isplitl [Hpay]
    · iapply (Entails.of_eq (rest_bar pb c)) $$ Hpay
    iexact Hat
  iexists _; iexact HO

/-- A wait for a copy of 32 rows, towards or from another device. -/
theorem wait_step (K : GSem nD τ sig → ℕ) (k : Fin 4) {c j : Dev nD} (h : c ≠ j) {n : DmaSem sig} (hn : n = dsem k j)
    {O : CellTallies nD τ sig Unit} (hO : (levAts L lv : sProp 𝕄) ⊢ MayWait (c : Thread nD τ) (.dma (dsem k j)) () O)
    {src dst : Memref sig .tc .vmem S32x512 .bf16} {w₁ w₂} (hN : dst.view.amount (.dma n) = N) :
    iprop(Ctx pb K c ∗ (cred (tallyAt (dcell k c j) () N) ∗ atPos ER (dcell k c j) 0 ∅ 0) ∗ Ow c O)
      ⊢ wpB c (Prog.lift (.waitDma2 n src dst w₁ w₂)) (fun _ => iprop(((talkRd pb).payload (dcell k c j) 0 0 ∗ atPos ER (dcell k c j) (0 + 1) ∅ 0) ∗ Ow c O)) := by
  subst hn
  unfold wpB Prog.lift
  iintro ⟨#HI, ⟨Hc, Hat⟩, ⟨%W, HO⟩⟩
  iapply (Rounds.wp_wait_rest_token 𝒱₀ ER (talkRd pb) (c : Thread nD τ) none (κ := K (dcell k c j))
      (wpE_waitDma2_eq 𝒱₀ (c : Thread nD τ) none Set.univ) (Set.mem_univ _) () (O := O) (W := W) (R := 0) (m := 0) (T := ∅)
      ((Nat.zero_add _).trans (hN.trans (expect_dma pb c j k h).symm))) $$ [Hc HO Hat]
  · isplitr; · iapply (ctx_dma pb K c k c j); iexact HI
    isplitl [Hc]; · rw [show dst.view.dmaCredit = N from hN]; iexact Hc
    isplitl [HO]; · iexact HO
    isplitr
    · iapply hO; iapply (ctx_lev pb K c); iexact HI
    iexact Hat
  iintro ⟨HO, Hat, -, Hpay⟩
  rw [wp_ret]
  imodintro
  isplitr [HO]
  · isplitl [Hpay]
    · iapply (Entails.of_eq (rest_dma pb c j k h)) $$ Hpay
    iexact Hat
  iexists _; iexact HO

/-! ## The sends -/

theorem sem_0 (j : Dev nD) {o : Fin 1 → ℕ} (i : ∀ a, o a + S1.size a ≤ S8.size a) (ho : o = ![j.val]) :
    ((cc0_scratch3.slice (Rect.unit (s := S8) o S1.size i)).squeeze S_ squeezes_S1_S_).sem = dsem 0 j := by
  subst ho; revert j; decide
theorem sem_1 (j : Dev nD) {o : Fin 1 → ℕ} (i : ∀ a, o a + S1.size a ≤ S8.size a) (ho : o = ![j.val]) :
    ((cc0_scratch4.slice (Rect.unit (s := S8) o S1.size i)).squeeze S_ squeezes_S1_S_).sem = dsem 1 j := by
  subst ho; revert j; decide
theorem sem_2 (j : Dev nD) {o : Fin 1 → ℕ} (i : ∀ a, o a + S1.size a ≤ S8.size a) (ho : o = ![j.val]) :
    ((cc0_scratch5.slice (Rect.unit (s := S8) o S1.size i)).squeeze S_ squeezes_S1_S_).sem = dsem 2 j := by
  subst ho; revert j; decide
theorem sem_3 (j : Dev nD) {o : Fin 1 → ℕ} (i : ∀ a, o a + S1.size a ≤ S8.size a) (ho : o = ![j.val]) :
    ((cc0_scratch6.slice (Rect.unit (s := S8) o S1.size i)).squeeze S_ squeezes_S1_S_).sem = dsem 3 j := by
  subst ho; revert j; decide

/-- Before block `j` leaves: the slot of `j` that it lands on, the block, and the rights to pay both ends. -/
def preC (c j : Dev nD) : sProp 𝕄 :=
  iprop((∃ f, slot1 j c f) ∗ reached ER (dcell 1 j c) 0 ∗ rowsPt c j (pb c) ∗ dutyTok ER (dcell 0 c j) 0 0 ∗ dutyTok ER (dcell 1 j c) 0 0)
def postC (c j : Dev nD) : sProp 𝕄 := cred (tallyAt (dcell 0 c j) () N)

theorem send1_step (K : GSem nD τ sig → ℕ) {c j : Dev nD} (h : c ≠ j) {d : Dev nD} (hd : d = j)
    {o2 : Fin 3 → ℕ} (i2 : ∀ a, o2 a + S1x32x512.size a ≤ S8x32x512.size a) (ho2 : o2 = ![c.val, 0, 0])
    {o3 : Fin 2 → ℕ} (i3 : ∀ a, o3 a + S32x512.size a ≤ S256x512.size a) (ho3 : o3 = ![32 * j.val, 0])
    {n0 n1 : DmaSem sig} (hn0 : n0 = dsem 0 j) (hn1 : n1 = dsem 1 c) {w₁ w₂ w₃} :
    iprop(Ctx pb K c ∗ preC pb c j ∗ Ow c (oC c j.val))
      ⊢ wpB c (Prog.lift (.enqueueDma (pM.slice (Rect.unit (s := S256x512) o3 S32x512.size i3) (fun _ => rfl))
          (.remote (Dev.tc d) ((r1M.slice (Rect.unit (s := S8x32x512) o2 S1x32x512.size i2) (fun _ => rfl)).squeeze S32x512 squeezes_S1x32x512_S32x512) (.dma n0)) (.dma n1) w₁ w₂ w₃))
        (fun _ => iprop(postC (F := F) c j ∗ Ow c (oC c (j.val + 1)))) := by
  subst hd ho2 ho3 hn0 hn1
  unfold preC postC wpB Prog.lift
  iintro ⟨#HI, ⟨⟨%fd, Hd⟩, #Hr, Hs, Ht0, Ht1⟩, ⟨%W, HO⟩⟩
  iapply (Rounds.wp_send_pointsTo 𝒱₀ ER (talkRd pb) (c : Thread nD τ) none (c' := (d : Thread nD τ)) (src := rowsM d) (dst := slotM r1M c)
      (sS := .dma (dsem 0 d)) (sem := .dma (dsem 1 c)) (q := fullShare) (fs := pb c) (κ₁ := K (dcell 0 c d)) (κ₂ := K (dcell 1 d c))
      (r₁ := 0) (r₂ := 0) (d₁ := 0) (d₂ := 0) (fd := fd)
      (by rw [duties_dma pb c d 0 h]; exact Finset.mem_singleton_self _) (by rw [duties_dma pb d c 1 h.symm]; exact Finset.mem_singleton_self _)
      () () N (amount_slot1 c _) (amount_dma pb c d 0 0) (amount_dma pb d c 1 0) (oC c (d.val + 1)) (oC_step h) (W := W)
      (by rw [payload_0])
      (by rw [payload_1]; exact Entails.of_eq (land1 pb c d fd))) $$ [Hs Hd HO Ht0 Ht1]
  · isplitr; · iapply (ctx_dma pb K c 0 c d); iexact HI
    isplitr; · iapply (ctx_dma pb K c 1 d c); iexact HI
    isplitl [Hs]; · iexact Hs
    isplitl [Hd]; · iexact Hd
    isplitl [HO]; · iexact HO
    isplitl [Ht0]; · iexact Ht0
    isplitr; · iapply (ctx_reached pb K c 0 d); iexact HI
    isplitl [Ht1]; · iexact Ht1
    iexact Hr
  iintro ⟨Hc, HO⟩
  rw [wp_ret]
  imodintro
  isplitl [Hc]; · iexact Hc
  iexists W; iexact HO

/-- Before the reduced block leaves for `t`: the slot of `t` that it lands on, a share of the block, and the rights to pay both ends. -/
def preG (c t : Dev nD) : sProp 𝕄 :=
  iprop((∃ f, slot2 fullShare t c f) ∗ reached ER (dcell 3 t c) 0 ∗ slot2 (lf t) c c (rb2 pb) ∗ dutyTok ER (dcell 2 c t) 0 0 ∗ dutyTok ER (dcell 3 t c) 0 0)
def postG (c t : Dev nD) : sProp 𝕄 := cred (tallyAt (dcell 2 c t) () N)

theorem send2_step (K : GSem nD τ sig → ℕ) {c j : Dev nD} (h : c ≠ j) {d : Dev nD} (hd : d = j)
    {o2 : Fin 3 → ℕ} (i2 : ∀ a, o2 a + S1x32x512.size a ≤ S8x32x512.size a) (ho2 : o2 = ![c.val, 0, 0])
    {n0 n1 : DmaSem sig} (hn0 : n0 = dsem 2 j) (hn1 : n1 = dsem 3 c) {w₁ w₂ w₃} :
    iprop(Ctx pb K c ∗ preG pb c j ∗ Ow c (oG c j.val))
      ⊢ wpB c (Prog.lift (.enqueueDma ((r2M.slice (Rect.unit (s := S8x32x512) o2 S1x32x512.size i2) (fun _ => rfl)).squeeze S32x512 squeezes_S1x32x512_S32x512)
          (.remote (Dev.tc d) ((r2M.slice (Rect.unit (s := S8x32x512) o2 S1x32x512.size i2) (fun _ => rfl)).squeeze S32x512 squeezes_S1x32x512_S32x512) (.dma n0)) (.dma n1) w₁ w₂ w₃))
        (fun _ => iprop(postG (F := F) c j ∗ Ow c (oG c (j.val + 1)))) := by
  subst hd ho2 hn0 hn1
  unfold preG postG wpB Prog.lift
  iintro ⟨#HI, ⟨⟨%fd, Hd⟩, #Hr, Hs, Ht0, Ht1⟩, ⟨%W, HO⟩⟩
  iapply (Rounds.wp_send_pointsTo 𝒱₀ ER (talkRd pb) (c : Thread nD τ) none (c' := (d : Thread nD τ)) (src := slotM r2M c) (dst := slotM r2M c)
      (sS := .dma (dsem 2 d)) (sem := .dma (dsem 3 c)) (q := lf d) (fs := rb2 pb) (κ₁ := K (dcell 2 c d)) (κ₂ := K (dcell 3 d c))
      (r₁ := 0) (r₂ := 0) (d₁ := 0) (d₂ := 0) (fd := fd)
      (by rw [duties_dma pb c d 2 h]; exact Finset.mem_singleton_self _) (by rw [duties_dma pb d c 3 h.symm]; exact Finset.mem_singleton_self _)
      () () N (amount_slot2 c _) (amount_dma pb c d 2 0) (amount_dma pb d c 3 0) (oG c (d.val + 1)) (oG_step h) (W := W)
      (by rw [payload_2])
      (by rw [payload_3]; exact Entails.of_eq (land2 pb c d fd))) $$ [Hs Hd HO Ht0 Ht1]
  · isplitr; · iapply (ctx_dma pb K c 2 c d); iexact HI
    isplitr; · iapply (ctx_dma pb K c 3 d c); iexact HI
    isplitl [Hs]; · iexact Hs
    isplitl [Hd]; · iexact Hd
    isplitl [HO]; · iexact HO
    isplitl [Ht0]; · iexact Ht0
    isplitr; · iapply (ctx_reached pb K c 2 d); iexact HI
    isplitl [Ht1]; · iexact Ht1
    iexact Hr
  iintro ⟨Hc, HO⟩
  rw [wp_ret]
  imodintro
  isplitl [Hc]; · iexact Hc
  iexists W; iexact HO

end Contents

end Cert.KernelIdeal.Talk

end
-- ==== Proof.Body.lean ====
/- The body of the kernel, part by part, at a symbolic device. -/
module

public import proofs.«01_k».proof.Proof.Steps

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

abbrev aM : Memref sig .tc .vmem S512x512 .f32 := Memref.whole cc0_stg0_0
abbrev bM : Memref sig .tc .vmem S1792x256 .f32 := Memref.whole cc0_stg1_0
abbrev oM : Memref sig .tc .vmem S2x128x512 .f32 := Memref.whole cc0_stg2_0

abbrev aPt (c : Dev nD) (A : Vec F S512x512 .f32) : sProp 𝕄 := aM.view.loc (c : Thread nD τ) ↦{fullShare} A
abbrev bPt (c : Dev nD) (B : Vec F S1792x256 .f32) : sProp 𝕄 := bM.view.loc (c : Thread nD τ) ↦{fullShare} B
abbrev oPt (c : Dev nD) (f : Vec F S2x128x512 .f32) : sProp 𝕄 := oM.view.loc (c : Thread nD τ) ↦{fullShare} f

/-! ## A load, a store, the device's name -/

theorem device_then {c : Dev nD} {α : Type} {k : Dev nD → Prog (TpuEff nD τ sig (Elt F) Λ₀ .tc) α} {P : sProp 𝕄} {Q : α → sProp 𝕄}
    (hk : P ⊢ wpB c (k c) Q) : P ⊢ wpB c (Prog.lift .deviceId >>= k) Q := by
  show P ⊢ wp frame (wpE (defs₀ (F := F)) 𝒱₀ (c : Thread nD τ) none) Set.univ (.op .deviceId fun d => k d) Q
  rw [wp_deviceId]
  exact hk

theorem load_then {c : Dev nD} {α : Type} {cs : CoreSpace} {s : Shape} {e : EltTy} {m : Memref sig .tc cs s e} {r : Rect s}
    {hl : m.view.LoadsAt r.toLoadRect} {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))}
    {P R : sProp 𝕄} {Q : α → sProp 𝕄} (hS : (m.access r).set ⊆ S) (hP : P ⊢ iprop((m.view.loc (c : Thread nD τ) ↦[S]{q} f) ∗ R))
    (hk : iprop((m.view.loc (c : Thread nD τ) ↦[S]{q} f) ∗ R) ⊢ wpB c (k ((m.access r).read (Elt F) f)) Q) :
    P ⊢ wpB c (Prog.lift (.load m r.toLoadRect hl) >>= k) Q := by
  refine hP.trans ?_
  show _ ⊢ wp frame (wpE (defs₀ (F := F)) 𝒱₀ (c : Thread nD τ) none) Set.univ (.op (.load m r.toLoadRect hl) fun x => k x) Q
  iintro ⟨H, HR⟩
  iapply (wp_load_rect (r := r) 𝒱₀ (c : Thread nD τ) none Set.univ hS) $$ H
  iintro H
  iapply hk
  isplitl [H] <;> iassumption

theorem store_then {c : Dev nD} {α : Type} {cs : CoreSpace} {s : Shape} {e : EltTy} {m : Memref sig .tc cs s e} {r : Rect s}
    {w : r.shape.Idx → Elt F e} {hx : (m.access r).Stores Finset.univ} {hm} {k : PUnit → Prog (TpuEff nD τ sig (Elt F) Λ₀ .tc) α}
    {S : Finset (Idx (m.view.loc (c : Thread nD τ)))} {f : Buf (Elt F) (m.view.loc (c : Thread nD τ))}
    {P R : sProp 𝕄} {Q : α → sProp 𝕄} (hS : (m.access r).set ⊆ S) (hP : P ⊢ iprop((m.view.loc (c : Thread nD τ) ↦[S]{fullShare} f) ∗ R))
    (hk : iprop((m.view.loc (c : Thread nD τ) ↦[S]{fullShare} ((m.access r).write (Elt F) f w Finset.univ)) ∗ R) ⊢ wpB c (k ⟨⟩) Q) :
    P ⊢ wpB c (Prog.lift (.store m r w Finset.univ hx hm) >>= k) Q := by
  refine hP.trans ?_
  show _ ⊢ wp frame (wpE (defs₀ (F := F)) 𝒱₀ (c : Thread nD τ) none) Set.univ (.op (.store m r w Finset.univ hx hm) fun x => k x) Q
  iintro ⟨H, HR⟩
  iapply (wp_store (r := r) 𝒱₀ (c : Thread nD τ) none Set.univ (show (m.access r).setOn Finset.univ ⊆ S from hS)) $$ H
  iintro H
  iapply hk
  isplitl [H] <;> iassumption

theorem loadS {c : Dev nD} {α : Type} {s : Shape} {e : EltTy} (m : Memref sig .tc .vmem s e) {r : Rect s} {hl : m.view.LoadsAt r.toLoadRect}
    (S : Finset (Idx (m.view.loc (c : Thread nD τ)))) (q : PosShare TreeShare)
    {k : (r.shape.Idx → Elt F e) → Prog (TpuEff nD τ sig (Elt F) Λ₀ .tc) α} {f : Buf (Elt F) (m.view.loc (c : Thread nD τ))} {P R : sProp 𝕄} {Q : α → sProp 𝕄}
    (hS : (m.access r).set ⊆ S)
    (hk : iprop(P ∗ (m.view.loc (c : Thread nD τ) ↦[S]{q} f) ∗ R) ⊢ wpB c (k ((m.access r).read (Elt F) f)) Q) :
    iprop(P ∗ (m.view.loc (c : Thread nD τ) ↦[S]{q} f) ∗ R) ⊢ wpB c (Prog.lift (.load m r.toLoadRect hl) >>= k) Q := by
  refine load_then (S := S) (q := q) (f := f) (R := iprop(P ∗ R)) hS ?_ (BIBase.Entails.trans ?_ hk)
  · iintro ⟨H1, H2, H3⟩
    isplitl [H2]; · iexact H2
    isplitl [H1] <;> iassumption
  · iintro ⟨H1, H2, H3⟩
    isplitl [H2]; · iexact H2
    isplitl [H1] <;> iassumption

theorem storeS {c : Dev nD} {α : Type} {s : Shape} {e : EltTy} (m : Memref sig .tc .vmem s e) {r : Rect s}
    {w : r.shape.Idx → Elt F e} {hx : (m.access r).Stores Finset.univ} {hm} (S : Finset (Idx (m.view.loc (c : Thread nD τ))))
    {k : PUnit → Prog (TpuEff nD τ sig (Elt F) Λ₀ .tc) α} {f : Buf (Elt F) (m.view.loc (c : Thread nD τ))} {P R : sProp 𝕄} {Q : α → sProp 𝕄}
    (hS : (m.access r).set ⊆ S)
    (hk : iprop(P ∗ (m.view.loc (c : Thread nD τ) ↦[S]{fullShare} ((m.access r).write (Elt F) f w Finset.univ)) ∗ R) ⊢ wpB c (k ⟨⟩) Q) :
    iprop(P ∗ (m.view.loc (c : Thread nD τ) ↦[S]{fullShare} f) ∗ R) ⊢ wpB c (Prog.lift (.store m r w Finset.univ hx hm) >>= k) Q := by
  refine store_then (S := S) (f := f) (R := iprop(P ∗ R)) hS ?_ (BIBase.Entails.trans ?_ hk)
  · iintro ⟨H1, H2, H3⟩
    isplitl [H2]; · iexact H2
    isplitl [H1] <;> iassumption
  · iintro ⟨H1, H2, H3⟩
    isplitl [H2]; · iexact H2
    isplitl [H1] <;> iassumption

/-- The same for a whole array. -/
theorem loadA {c : Dev nD} {α : Type} {s : Shape} {e : EltTy} {m : Memref sig .tc .vmem s e} {r : Rect s} {hl : m.view.LoadsAt r.toLoadRect}
    {k : (r.shape.Idx → Elt F e) → Prog (TpuEff nD τ sig (Elt F) Λ₀ .tc) α} {f : Buf (Elt F) (m.view.loc (c : Thread nD τ))} {P R : sProp 𝕄} {Q : α → sProp 𝕄}
    (hk : iprop(P ∗ (m.view.loc (c : Thread nD τ) ↦{fullShare} f) ∗ R) ⊢ wpB c (k ((m.access r).read (Elt F) f)) Q) :
    iprop(P ∗ (m.view.loc (c : Thread nD τ) ↦{fullShare} f) ∗ R) ⊢ wpB c (Prog.lift (.load m r.toLoadRect hl) >>= k) Q :=
  loadS m Finset.univ fullShare (Finset.subset_univ _) hk

theorem storeA {c : Dev nD} {α : Type} {s : Shape} {e : EltTy} {m : Memref sig .tc .vmem s e} {r : Rect s}
    {w : r.shape.Idx → Elt F e} {hx : (m.access r).Stores Finset.univ} {hm}
    {k : PUnit → Prog (TpuEff nD τ sig (Elt F) Λ₀ .tc) α} {f : Buf (Elt F) (m.view.loc (c : Thread nD τ))} {P R : sProp 𝕄} {Q : α → sProp 𝕄}
    (hk : iprop(P ∗ (m.view.loc (c : Thread nD τ) ↦{fullShare} ((m.access r).write (Elt F) f w Finset.univ)) ∗ R) ⊢ wpB c (k ⟨⟩) Q) :
    iprop(P ∗ (m.view.loc (c : Thread nD τ) ↦{fullShare} f) ∗ R) ⊢ wpB c (Prog.lift (.store m r w Finset.univ hx hm) >>= k) Q :=
  storeS m Finset.univ (Finset.subset_univ _) hk

theorem ret_then {c : Dev nD} {α : Type} {a : α} {P : sProp 𝕄} {Q : α → sProp 𝕄} (h : P ⊢ Q a) :
    P ⊢ wpB c (pure a : Prog (TpuEff nD τ sig (Elt F) Λ₀ .tc) α) Q := by
  show P ⊢ wp frame (wpE (defs₀ (F := F)) 𝒱₀ (c : Thread nD τ) none) Set.univ (.ret a) Q
  rw [wp_ret]
  iintro H
  imodintro
  iapply h
  iexact H

/-! ## What the device computes from its operands -/

abbrev v2of (c : Dev nD) : BitVec 32 := Scalar.remsi (Scalar.divsi (Dev.word c) 1#32) 8#32

section Values

variable (A : Vec F S512x512 .f32) (B : Vec F S1792x256 .f32)

def ldA0 : Vec F S256x512 .f32 := (aM.access (Rect.unit (s := S512x512) ![0, 0] S256x512.size inb_S512x512_S256x512_0_0)).read (Elt F) A
def ldA1 : Vec F S256x512 .f32 := (aM.access (Rect.unit (s := S512x512) ![256, 0] S256x512.size inb_S512x512_S256x512_256_0)).read (Elt F) A
def ldB0 : Vec F S512x256 .f32 := (bM.access (Rect.unit (s := S1792x256) ![0, 0] S512x256.size inb_S1792x256_S512x256_0_0)).read (Elt F) B
def ldB1 : Vec F S512x256 .f32 := (bM.access (Rect.unit (s := S1792x256) ![512, 0] S512x256.size inb_S1792x256_S512x256_512_0)).read (Elt F) B
def ldB2 : Vec F S512x256 .f32 := (bM.access (Rect.unit (s := S1792x256) ![1024, 0] S512x256.size inb_S1792x256_S512x256_1024_0)).read (Elt F) B
def ldB3 : Vec F S128x256 .f32 := (bM.access (Rect.unit (s := S1792x256) ![1536, 0] S128x256.size inb_S1792x256_S128x256_1536_0)).read (Elt F) B
def ldB4 : Vec F S128x256 .f32 := (bM.access (Rect.unit (s := S1792x256) ![1664, 0] S128x256.size inb_S1792x256_S128x256_1664_0)).read (Elt F) B

def x30 : FVec F S256x512 .bf16 := k0_pay1 (ldA0 A)
def x50 : FVec F S256x256 .bf16 := k0_pay5 (x30 A) (ldB2 B)
def x51 : FVec F S512x256 .f32 := k0_pay6 (x30 A) (ldB0 B) (ldB1 B)
def x52 : IVec S256x256 32 := iota .tc S256x256 32 [0] iota_S256x256_d0_w32
def x53 : IVec S256x256 32 := iota .tc S256x256 32 [1] iota_S256x256_d1_w32
def x95 : FVec F S256x256 .bf16 := k0_pay9 (k0_pay3 (ldB3 B)) (k0_pay4 (ldB4 B)) (x51 A B) x52 x53 k0_pay7
def x96 : FVec F S256x256 .bf16 := k0_pay10 (k0_pay3 (ldB3 B)) (k0_pay4 (ldB4 B)) (x51 A B) x52 x53 k0_pay7
def x153 : FVec F S128x256 .f32 := k0_pay14 (x50 A B) (x95 A B) (x96 A B)
  (k0_pay11 (k0_pay3 (ldB3 B)) (k0_pay4 (ldB4 B)) (x50 A B) (x51 A B) x52 x53 k0_pay7)
  (k0_pay12 (k0_pay3 (ldB3 B)) (k0_pay4 (ldB4 B)) (x51 A B) x52 x53 k0_pay7) (k0_pay13 (F := F))

/-- The device's partial product. -/
def pbOf : Vec F S256x512 .bf16 :=
  k0_pay21 (k0_pay2 (ldA1 A)) (x153 A B) (k0_pay17 (x50 A B) (k0_pay15 (x95 A B) (x96 A B)) (k0_pay16 (x95 A B) (x96 A B)))
    (k0_pay18 (x50 A B) (x95 A B) (x96 A B)) (k0_pay19 (x50 A B) (x95 A B) (x96 A B)) (k0_pay20 (x50 A B) (x95 A B) (x96 A B))

end Values

/-! ## The phases of waits -/

section Waits

variable (pb : Dev nD → Vec F S256x512 .bf16) (K : GSem nD τ sig → ℕ) (c : Dev nD)

abbrev v3 : Sems sig S_ := SemArray.scalar (sig.barrier 0 rfl)

/-- Something for each device but `c`. -/
abbrev oth (c : Dev nD) (Φ : Dev nD → sProp 𝕄) : sProp 𝕄 := bigSep (Finset.univ.erase c) Φ

/-- Before a wait on the cell of kind `k` and index `j`, and after it. -/
def preW (k : Fin 4) (c j : Dev nD) : sProp 𝕄 := iprop(cred (tallyAt (dcell k c j) () N) ∗ atPos ER (dcell k c j) 0 ∅ 0)
def postW (k : Fin 4) (c j : Dev nD) : sProp 𝕄 := iprop((talkRd pb).payload (dcell k c j) 0 0 ∗ atPos ER (dcell k c j) (0 + 1) ∅ 0)

/-- The word that guards a wait for device `s`. -/
abbrev cw (w : BitVec 32) : BitVec 1 := Scalar.cmpi .ne (Scalar.extui (Scalar.cmpi .ne (v2of c) w) : BitVec 32) 0#32

theorem wcond (s : Dev nD) : cw c (BitVec.ofNat 32 s.val) = 1#1 ↔ c ≠ s := by revert c s; decide

theorem guardW (k : Fin 4) (O : CellTallies nD τ sig Unit) {R : sProp 𝕄} {α : Type} (j : Dev nD) {P : Prop} [Decidable P] (hP : P ↔ c ≠ j)
    {n : DmaSem sig} {src dst : Memref sig .tc .vmem S32x512 .bf16} {w₁ w₂}
    {rest : Prog (TpuEff nD τ sig (Elt F) Λ₀ .tc) α} {Q : α → sProp 𝕄}
    (hO : (levAts L lv : sProp 𝕄) ⊢ MayWait (c : Thread nD τ) (.dma (dsem k j)) () O) (hn : n = dsem k j) (hN : dst.view.amount (.dma n) = N)
    (hk : iprop(Ctx pb K c ∗ fam c (preW (F := F) k c) (postW pb k c) (j.val + 1) ∗ Ow c O ∗ R) ⊢ wpB c rest Q) :
    iprop(Ctx pb K c ∗ fam c (preW (F := F) k c) (postW pb k c) j.val ∗ Ow c O ∗ R)
      ⊢ wpB c (if _h : P then Prog.lift (.waitDma2 n src dst w₁ w₂) >>= fun _ => rest else rest) Q :=
  guard (a := fun _ => Prog.lift (.waitDma2 n src dst w₁ w₂)) (O := fun _ => O) j hP rfl
    (fun h => wait_step pb K k (hP.mp h) hn hO hN) hk

/-- Before the two waits for the departures towards `j`, and after them. -/
def preI (c j : Dev nD) : sProp 𝕄 := iprop(preW (F := F) 0 c j ∗ preW (F := F) 2 c j)
def postI (c j : Dev nD) : sProp 𝕄 := iprop(postW pb 0 c j ∗ postW pb 2 c j)

theorem mayWait_none (k : Fin 4) (j : Dev nD) : (levAts L lv : sProp 𝕄) ⊢ MayWait (c : Thread nD τ) (.dma (dsem k j)) () 0 := by
  iintro -
  rw [MayWait_zero]
  iempintro

theorem two_waits {j : Dev nD} (h : c ≠ j) {n n' : DmaSem sig} {src dst src' dst' : Memref sig .tc .vmem S32x512 .bf16} {w₁ w₂ w₁' w₂'}
    (hn : n = dsem 0 j) (hN : dst.view.amount (.dma n) = N) (hn' : n' = dsem 2 j) (hN' : dst'.view.amount (.dma n') = N) :
    iprop(Ctx pb K c ∗ preI (F := F) c j ∗ Ow c 0)
      ⊢ wpB c (Prog.lift (.waitDma2 n src dst w₁ w₂) >>= fun _ => Prog.lift (.waitDma2 n' src' dst' w₁' w₂')) (fun _ => iprop(postI pb c j ∗ Ow c 0)) := by
  refine BIBase.Entails.trans ?_ (wpB_seq (wpB_frame (R := iprop(Ctx pb K c ∗ preW (F := F) 2 c j)) (wait_step pb K 0 h hn (mayWait_none c 0 j) hN (src := src) (w₁ := w₁) (w₂ := w₂))) fun _ =>
    BIBase.Entails.trans ?_ ((wpB_frame (R := postW pb 0 c j) (wait_step pb K 2 h hn' (mayWait_none c 2 j) hN' (src := src') (w₁ := w₁') (w₂ := w₂'))).trans (wp_mono _ _ _ fun _ => ?_)))
  · unfold preI preW
    iintro ⟨#H1, ⟨H2, H3⟩, H4⟩
    isplitr [H3]
    · isplitr; · iexact H1
      isplitl [H2] <;> iassumption
    · isplitr; · iexact H1
      iexact H3
  · unfold preW postW
    iintro ⟨⟨H1, H2⟩, #H3, H4⟩
    isplitl [H2 H4]
    · isplitr; · iexact H3
      isplitl [H4] <;> iassumption
    · iexact H1
  · unfold postI postW
    iintro ⟨⟨H1, H2⟩, H3⟩
    isplitl [H1 H3]
    · isplitl [H3] <;> iassumption
    · iexact H2

theorem guardI {R : sProp 𝕄} {α : Type} (j : Dev nD) {P : Prop} [Decidable P] (hP : P ↔ c ≠ j)
    {n n' : DmaSem sig} {src dst src' dst' : Memref sig .tc .vmem S32x512 .bf16} {w₁ w₂ w₁' w₂'}
    {rest : Prog (TpuEff nD τ sig (Elt F) Λ₀ .tc) α} {Q : α → sProp 𝕄}
    (hn : n = dsem 0 j) (hN : dst.view.amount (.dma n) = N) (hn' : n' = dsem 2 j) (hN' : dst'.view.amount (.dma n') = N)
    (hk : iprop(Ctx pb K c ∗ fam c (preI (F := F) c) (postI pb c) (j.val + 1) ∗ Ow c 0 ∗ R) ⊢ wpB c rest Q) :
    iprop(Ctx pb K c ∗ fam c (preI (F := F) c) (postI pb c) j.val ∗ Ow c 0 ∗ R)
      ⊢ wpB c (if _h : P then Prog.lift (.waitDma2 n src dst w₁ w₂) >>= fun _ => (Prog.lift (.waitDma2 n' src' dst' w₁' w₂') >>= fun _ => rest) else rest) Q :=
  guard (a := fun _ => Prog.lift (.waitDma2 n src dst w₁ w₂) >>= fun _ => Prog.lift (.waitDma2 n' src' dst' w₁' w₂')) (O := fun _ => 0) j hP rfl
    (fun h => two_waits pb K c (hP.mp h) hn hN hn' hN') hk

end Waits

end Cert.KernelIdeal.Talk

end
-- ==== Proof.Head.lean ====
/- The head of the body: the signals, the operands' loads, and the values.  -/
module

public import proofs.«01_k».proof.Proof.Body

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

section Parts

variable (pb : Dev nD → Vec F S256x512 .bf16) (K : GSem nD τ sig → ℕ) (c : Dev nD) (A : Vec F S512x512 .f32) (B : Vec F S1792x256 .f32)

theorem cond1 : k0_cond1 c = 1#1 ↔ c ≠ 0 := by revert c; decide
theorem cond2 : k0_cond2 c = 1#1 ↔ c ≠ 1 := by revert c; decide
theorem cond3 : k0_cond3 c = 1#1 ↔ c ≠ 2 := by revert c; decide
theorem cond4 : k0_cond4 c = 1#1 ↔ c ≠ 3 := by revert c; decide
theorem cond5 : k0_cond5 c = 1#1 ↔ c ≠ 4 := by revert c; decide
theorem cond6 : k0_cond6 c = 1#1 ↔ c ≠ 5 := by revert c; decide
theorem cond7 : k0_cond7 c = 1#1 ↔ c ≠ 6 := by revert c; decide
theorem cond8 : k0_cond8 c = 1#1 ↔ c ≠ 7 := by revert c; decide

theorem guardA {R : sProp 𝕄} {α : Type} (j : Dev nD) {P : Prop} [Decidable P] (hP : P ↔ c ≠ j) {d : P → Dev nD}
    {rest : Prog (TpuEff nD τ sig (Elt F) Λ₀ .tc) α} {Q : α → sProp 𝕄} (hd : ∀ h, d h = j)
    (hk : iprop(Ctx pb K c ∗ fam c (preA c) (done c) (j.val + 1) ∗ Ow c (oA c (j.val + 1)) ∗ R) ⊢ wpB c rest Q) :
    iprop(Ctx pb K c ∗ fam c (preA c) (done c) j.val ∗ Ow c (oA c j.val) ∗ R)
      ⊢ wpB c (if h : P then semSignalWord (d h) v3.sem 1#32 >>= fun _ => rest else rest) Q :=
  guard (a := fun h => semSignalWord (d h) v3.sem 1#32) j hP (oA_skip c) (fun h => signal_step pb K (hP.mp h) (hd h)) hk

attribute [local irreducible] Scalar.cmpi in
theorem run1 (R : sProp 𝕄) (Q) (h0 h1 h2 h3 h4 h5)
    (hQ : iprop(Ctx pb K c ∗ Ow c (oC c 0) ∗ aPt c A ∗ R) ⊢ Q ⟨c, v2of c, v3, x30 A⟩) :
    iprop(Ctx pb K c ∗ fam c (preA c) (done c) 0 ∗ Ow c (oA c 0) ∗ aPt c A ∗ R)
      ⊢ wpB c (k0_part1 (F := F) aM h0 bM h1 oM h2 pM h3 r1M h4 r2M h5 cc0_scratch3 cc0_scratch4 cc0_scratch5 cc0_scratch6) Q := by
  rw [k0_part1_eq_skeleton]
  unfold k0_part1_skel
  refine device_then ?_
  extract_lets -underBinder v0 v1 v2 v3 jp
  refine guardA pb K c (0 : Dev nD) (cond1 c) ?_ ?_; · exact fun h => Fin.ext k0_dev1_eq
  subst jp
  beta_reduce
  extract_lets -underBinder jp
  refine guardA pb K c (1 : Dev nD) (cond2 c) ?_ ?_; · exact fun h => Fin.ext k0_dev2_eq
  subst jp
  beta_reduce
  extract_lets -underBinder jp
  refine guardA pb K c (2 : Dev nD) (cond3 c) ?_ ?_; · exact fun h => Fin.ext k0_dev3_eq
  subst jp
  beta_reduce
  extract_lets -underBinder jp
  refine guardA pb K c (3 : Dev nD) (cond4 c) ?_ ?_; · exact fun h => Fin.ext k0_dev4_eq
  subst jp
  beta_reduce
  extract_lets -underBinder jp
  refine guardA pb K c (4 : Dev nD) (cond5 c) ?_ ?_; · exact fun h => Fin.ext k0_dev5_eq
  subst jp
  beta_reduce
  extract_lets -underBinder jp
  refine guardA pb K c (5 : Dev nD) (cond6 c) ?_ ?_; · exact fun h => Fin.ext k0_dev6_eq
  subst jp
  beta_reduce
  extract_lets -underBinder jp
  refine guardA pb K c (6 : Dev nD) (cond7 c) ?_ ?_; · exact fun h => Fin.ext k0_dev7_eq
  subst jp
  beta_reduce
  extract_lets -underBinder jp
  refine guardA pb K c (7 : Dev nD) (cond8 c) ?_ ?_; · exact fun h => Fin.ext k0_dev8_eq
  subst jp
  beta_reduce
  refine BIBase.Entails.trans (Q := iprop((Ctx pb K c ∗ Ow c (oC c 0)) ∗ aPt c A ∗ R)) ?_ ?_
  · rw [show oA c ((7 : Dev nD).val + 1) = oC c 0 from oA_done c]
    iintro ⟨#H1, -, H2, H3, H4⟩; iframe; iexact H1
  refine loadA (m := aM) (f := A) ?_
  refine ret_then ?_
  refine BIBase.Entails.trans ?_ hQ
  iintro ⟨⟨#H1, H2⟩, H3, H4⟩; iframe; iexact H1

theorem run2 (R : sProp 𝕄) (Q) (h0 h1 h2 h3 h4 h5)
    (hQ : iprop(aPt c A ∗ bPt c B ∗ R) ⊢ Q ⟨k0_pay2 (ldA1 A), k0_pay3 (ldB3 B), k0_pay4 (ldB4 B), x50 A B, x51 A B, x52, x53, k0_pay7⟩) :
    iprop(R ∗ aPt c A ∗ bPt c B)
      ⊢ wpB c (k0_part2 (F := F) aM h0 bM h1 oM h2 pM h3 r1M h4 r2M h5 cc0_scratch3 cc0_scratch4 cc0_scratch5 cc0_scratch6 (x30 A)) Q := by
  rw [k0_part2_eq_skeleton]
  unfold k0_part2_skel
  refine loadA (m := aM) (f := A) ?_
  refine BIBase.Entails.trans (Q := iprop(aPt c A ∗ bPt c B ∗ R)) (by iintro ⟨H1, H2, H3⟩; iframe) ?_
  refine loadA (m := bM) (f := B) ?_
  refine loadA (m := bM) (f := B) ?_
  refine loadA (m := bM) (f := B) ?_
  refine loadA (m := bM) (f := B) ?_
  refine loadA (m := bM) (f := B) ?_
  exact ret_then hQ

theorem run3 (R : sProp 𝕄) (Q) (h0 h1 h2 h3 h4 h5) (v44 v46 v50 v51 v52 v53 v69)
    (hQ : R ⊢ Q ⟨k0_pay9 v44 v46 v51 v52 v53 v69, k0_pay10 v44 v46 v51 v52 v53 v69, k0_pay11 v44 v46 v50 v51 v52 v53 v69,
      k0_pay12 v44 v46 v51 v52 v53 v69, k0_pay13 (F := F)⟩) :
    R ⊢ wpB c (k0_part3 (F := F) aM h0 bM h1 oM h2 pM h3 r1M h4 r2M h5 cc0_scratch3 cc0_scratch4 cc0_scratch5 cc0_scratch6 v44 v46 v50 v51 v52 v53 v69) Q := by
  rw [k0_part3_eq_skeleton]
  unfold k0_part3_skel
  exact ret_then hQ

theorem run4 (R : sProp 𝕄) (Q) (h0 h1 h2 h3 h4 h5) (v50 v95 v96 v110 v114 v115)
    (hQ : R ⊢ Q ⟨k0_pay14 v50 v95 v96 v110 v114 v115, k0_pay15 v95 v96, k0_pay16 v95 v96⟩) :
    R ⊢ wpB c (k0_part4 (F := F) aM h0 bM h1 oM h2 pM h3 r1M h4 r2M h5 cc0_scratch3 cc0_scratch4 cc0_scratch5 cc0_scratch6 v50 v95 v96 v110 v114 v115) Q := by
  rw [k0_part4_eq_skeleton]
  unfold k0_part4_skel
  exact ret_then hQ

theorem run5 (R : sProp 𝕄) (Q) (h0 h1 h2 h3 h4 h5) (v50 v95 v96 v160 v162)
    (hQ : R ⊢ Q ⟨k0_pay17 v50 v160 v162, k0_pay18 v50 v95 v96, k0_pay19 v50 v95 v96, k0_pay20 v50 v95 v96⟩) :
    R ⊢ wpB c (k0_part5 (F := F) aM h0 bM h1 oM h2 pM h3 r1M h4 r2M h5 cc0_scratch3 cc0_scratch4 cc0_scratch5 cc0_scratch6 v50 v95 v96 v160 v162) Q := by
  rw [k0_part5_eq_skeleton]
  unfold k0_part5_skel
  exact ret_then hQ

end Parts

end Cert.KernelIdeal.Talk

end
-- ==== Proof.Joins.lean ====
/- The states between the phases. -/
module

public import proofs.«01_k».proof.Proof.Body

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

section Joins

variable (pb : Dev nD → Vec F S256x512 .bf16) (c : Dev nD)

theorem univ_split (Φ : Dev nD → sProp 𝕄) : bigSep Finset.univ Φ = iprop(Φ c ∗ oth c Φ) := bigSep_erase (Finset.mem_univ c)

theorem oth_two {Φ₁ Φ₂ : Dev nD → sProp 𝕄} {Ψ : Dev nD → sProp 𝕄} (h : ∀ d, iprop(Φ₁ d ∗ Φ₂ d) ⊢ Ψ d) :
    iprop(oth c Φ₁ ∗ oth c Φ₂) ⊢ oth c Ψ :=
  (Entails.of_eq (bigSep_sep' (Finset.univ.erase c) Φ₁ Φ₂).symm).trans (bigSep_mono fun d _ => h d)

theorem oth_split {Φ : Dev nD → sProp 𝕄} {Ψ₁ Ψ₂ : Dev nD → sProp 𝕄} (h : ∀ d, Φ d ⊢ iprop(Ψ₁ d ∗ Ψ₂ d)) :
    oth c Φ ⊢ iprop(oth c Ψ₁ ∗ oth c Ψ₂) :=
  (bigSep_mono fun d _ => h d).trans (Entails.of_eq (bigSep_sep' (Finset.univ.erase c) Ψ₁ Ψ₂))

abbrev pPt (c : Dev nD) (f : Vec F S256x512 .bf16) : sProp 𝕄 := pM.view.loc (c : Thread nD τ) ↦{fullShare} f
abbrev r1Pt (c : Dev nD) (f : Vec F S8x32x512 .bf16) : sProp 𝕄 := r1M.view.loc (c : Thread nD τ) ↦{fullShare} f
abbrev r2Pt (c : Dev nD) (f : Vec F S8x32x512 .bf16) : sProp 𝕄 := r2M.view.loc (c : Thread nD τ) ↦{fullShare} f

theorem p_rows (f : Vec F S256x512 .bf16) : pPt c f = bigSep Finset.univ (fun j => rowsPt c j f) := rows_whole c f
theorem r1_slots (f : Vec F S8x32x512 .bf16) : r1Pt c f = bigSep Finset.univ (fun j => slot1 c j f) := slots1_whole c f
theorem r2_slots (f : Vec F S8x32x512 .bf16) : r2Pt c f = bigSep Finset.univ (fun j => slot2 fullShare c j f) := slots2_whole c f

/-- The rights to pay: each other device's barrier, the first exchange's two cells, and the second's. -/
def tokA (c j : Dev nD) : sProp 𝕄 := dutyTok ER (barCell j) 0 c
def tokC (c j : Dev nD) : sProp 𝕄 := iprop(dutyTok ER (dcell 0 c j) 0 0 ∗ dutyTok ER (dcell 1 j c) 0 0)
def tokG (c j : Dev nD) : sProp 𝕄 := iprop(dutyTok ER (dcell 2 c j) 0 0 ∗ dutyTok ER (dcell 3 j c) 0 0)

/-- Where the second exchange's block of `c` lands on `d`. -/
def land3 (c d : Dev nD) : sProp 𝕄 := iprop((∃ f, slot2 fullShare d c f) ∗ reached ER (dcell 3 d c) 0)

def any1 (c j : Dev nD) : sProp 𝕄 := iprop(∃ f, slot1 c j f)
def any2 (c j : Dev nD) : sProp 𝕄 := iprop(∃ f, slot2 fullShare c j f)

theorem r1_any (f : Vec F S8x32x512 .bf16) : r1Pt c f ⊢ bigSep Finset.univ (any1 (F := F) c) :=
  (Entails.of_eq (r1_slots c f)).trans (bigSep_mono fun j _ => by
    show iprop(slot1 c j f) ⊢ iprop(∃ f, slot1 c j f)
    iintro H
    iexists f
    iexact H)
theorem r2_any (f : Vec F S8x32x512 .bf16) : r2Pt c f ⊢ bigSep Finset.univ (any2 (F := F) c) :=
  (Entails.of_eq (r2_slots c f)).trans (bigSep_mono fun j _ => by
    show iprop(slot2 fullShare c j f) ⊢ iprop(∃ f, slot2 fullShare c j f)
    iintro H
    iexists f
    iexact H)

/-- Before the signals. -/
theorem join_A : (iprop(oth c (tokA (F := F) c) ∗ (∃ f, r1Pt c f) ∗ (∃ f, r2Pt c f)) : sProp 𝕄)
    ⊢ iprop(fam c (preA (F := F) c) (done c) 0 ∗ any1 (F := F) c c ∗ any2 (F := F) c c) := by
  rw [fam_zero]
  iintro ⟨H1, ⟨%f, H2⟩, ⟨%g, H4⟩⟩
  ihave H2' := ((r1_any c f).trans (Entails.of_eq (univ_split c _))) $$ H2
  ihave H4' := ((r2_any c g).trans (Entails.of_eq (univ_split c _))) $$ H4
  icases H2' with ⟨H2, H3⟩
  icases H4' with ⟨H4, H5⟩
  isplitl [H1 H3 H5]
  · ihave H6 := (oth_two c (Φ₁ := any1 c) (Φ₂ := any2 c) fun d => .rfl) $$ [H3 H5]
    · isplitl [H3] <;> iassumption
    iapply (oth_two c (Φ₁ := tokA c) (Φ₂ := fun d => iprop(any1 c d ∗ any2 c d)) (Ψ := preA c) fun d => .rfl)
    isplitl [H1] <;> iassumption
  · isplitl [H2] <;> iassumption

/-- Before the first exchange. -/
theorem join_C : (iprop(oth c (barPay (F := F) c) ∗ pPt c (pb c) ∗ oth c (tokC (F := F) c)) : sProp 𝕄)
    ⊢ iprop(fam c (preC pb c) (postC (F := F) c) 0 ∗ rowsPt c c (pb c) ∗ oth c (land3 (F := F) c)) := by
  rw [fam_zero, p_rows, univ_split c]
  iintro ⟨H1, ⟨H2, H3⟩, H4⟩
  ihave H5 := (oth_two c (Φ₁ := fun j => rowsPt c j (pb c)) (Φ₂ := tokC c) fun d => .rfl) $$ [H3 H4]
  · isplitl [H3] <;> iassumption
  ihave H6 := (oth_split c (Φ := fun d => iprop(barPay c d ∗ rowsPt c d (pb c) ∗ tokC c d)) (Ψ₁ := preC pb c) (Ψ₂ := land3 c) fun d => ?_) $$ [H1 H5]
  · unfold barPay tokC preC land3
    iintro ⟨⟨H1, H2, H3, H4⟩, H5, H6, H7⟩
    iframe
  · iapply (oth_two c (Φ₁ := barPay c) (Φ₂ := fun d => iprop(rowsPt c d (pb c) ∗ tokC c d)) fun d => .rfl)
    isplitl [H1] <;> iassumption
  icases H6 with ⟨H6, H7⟩
  iframe

/-- After the first exchange's waits. -/
theorem join_E : (iprop(fam c (preW (F := F) 1 c) (postW pb 1 c) 8 ∗ slot1 c c (rb1 pb c)) : sProp 𝕄)
    ⊢ iprop(r1Pt c (rb1 pb c) ∗ oth c (fun s => atPos ER (dcell 1 c s) (0 + 1) ∅ 0)) := by
  rw [fam_done, r1_slots, univ_split c]
  iintro ⟨H1, H2⟩
  ihave H3 := (oth_split c (Φ := postW pb 1 c) (Ψ₁ := fun j => slot1 c j (rb1 pb c)) (Ψ₂ := fun s => atPos ER (dcell 1 c s) (0 + 1) ∅ 0) fun d => ?_) $$ H1
  · unfold postW; rw [payload_1]
  icases H3 with ⟨H3, H4⟩
  iframe

/-- Before the second exchange. -/
theorem join_G : (iprop(slot2 fullShare c c (rb2 pb) ∗ oth c (land3 (F := F) c) ∗ oth c (tokG (F := F) c)) : sProp 𝕄)
    ⊢ iprop(fam c (preG pb c) (postG (F := F) c) 0 ∗ slot2 (lf c) c c (rb2 pb)) := by
  rw [fam_zero, slot2_leaves, univ_split c]
  iintro ⟨⟨H1, H2⟩, H3, H4⟩
  isplitr [H1]
  · ihave H5 := (oth_two c (Φ₁ := fun j => slot2 (lf j) c c (rb2 pb)) (Φ₂ := tokG c) fun d => .rfl) $$ [H2 H4]
    · isplitl [H2] <;> iassumption
    iapply (oth_two c (Φ₁ := land3 c) (Φ₂ := fun d => iprop(slot2 (lf d) c c (rb2 pb) ∗ tokG c d)) (Ψ := preG pb c) fun d => by
      unfold land3 tokG preG
      iintro ⟨⟨H1, H2⟩, H3, H4, H5⟩
      iframe)
    isplitl [H3] <;> iassumption
  · iexact H1

/-- Before the last waits. -/
theorem join_I : (iprop(oth c (postC (F := F) c) ∗ oth c (postG (F := F) c) ∗ oth c (fun s => atPos ER (dcell 0 c s) 0 ∅ 0)
      ∗ oth c (fun s => atPos ER (dcell 2 c s) 0 ∅ 0)) : sProp 𝕄)
    ⊢ fam c (preI (F := F) c) (postI pb c) 0 := by
  rw [fam_zero]
  iintro ⟨H1, H2, H3, H4⟩
  ihave H5 := (oth_two c (Φ₁ := postC c) (Φ₂ := fun s => atPos ER (dcell 0 c s) 0 ∅ 0) (Ψ := preW 0 c) fun d => .rfl) $$ [H1 H3]
  · isplitl [H1] <;> iassumption
  ihave H6 := (oth_two c (Φ₁ := postG c) (Φ₂ := fun s => atPos ER (dcell 2 c s) 0 ∅ 0) (Ψ := preW 2 c) fun d => .rfl) $$ [H2 H4]
  · isplitl [H2] <;> iassumption
  iapply (oth_two c (Φ₁ := preW 0 c) (Φ₂ := preW 2 c) (Ψ := preI c) fun d => .rfl)
  isplitl [H5] <;> iassumption

/-- What is left at the end. -/
theorem join_Z : (iprop(fam c (preW (F := F) 3 c) (postW pb 3 c) 8 ∗ slot2 (lf c) c c (rb2 pb) ∗ fam c (preI (F := F) c) (postI pb c) 8 ∗ rowsPt c c (pb c)) : sProp 𝕄)
    ⊢ iprop(pPt c (pb c) ∗ r2Pt c (rb2 pb) ∗ oth c (fun s => atPos ER (dcell 0 c s) (0 + 1) ∅ 0)
        ∗ oth c (fun s => atPos ER (dcell 2 c s) (0 + 1) ∅ 0) ∗ oth c (fun s => atPos ER (dcell 3 c s) (0 + 1) ∅ 0)) := by
  rw [fam_done, fam_done, p_rows, r2_slots, univ_split c, univ_split c (fun j => slot2 fullShare c j (rb2 pb)), slot2_leaves c c, univ_split c]
  iintro ⟨H1, H2, H3, H4⟩
  ihave H5 := (oth_split c (Φ := postW pb 3 c) (Ψ₁ := fun j => slot2 fullShare c j (rb2 pb)) (Ψ₂ := fun s => atPos ER (dcell 3 c s) (0 + 1) ∅ 0) fun d => ?_) $$ H1
  · unfold postW; rw [payload_3]
  icases H5 with ⟨H5, H6⟩
  ihave H7 := (oth_split c (Φ := postI pb c) (Ψ₁ := fun j => iprop(rowsPt c j (pb c) ∗ atPos ER (dcell 0 c j) (0 + 1) ∅ 0))
    (Ψ₂ := fun j => iprop(slot2 (lf j) c c (rb2 pb) ∗ atPos ER (dcell 2 c j) (0 + 1) ∅ 0)) fun d => ?_) $$ H3
  · unfold postI postW; rw [payload_0, payload_2]
  icases H7 with ⟨H7, H8⟩
  ihave H9 := (oth_split c (Φ := fun j => iprop(rowsPt c j (pb c) ∗ atPos ER (dcell 0 c j) (0 + 1) ∅ 0)) (Ψ₁ := fun j => rowsPt c j (pb c))
    (Ψ₂ := fun j => atPos ER (dcell 0 c j) (0 + 1) ∅ 0) fun d => .rfl) $$ H7
  icases H9 with ⟨H9, H10⟩
  ihave H11 := (oth_split c (Φ := fun j => iprop(slot2 (lf j) c c (rb2 pb) ∗ atPos ER (dcell 2 c j) (0 + 1) ∅ 0)) (Ψ₁ := fun j => slot2 (lf j) c c (rb2 pb))
    (Ψ₂ := fun j => atPos ER (dcell 2 c j) (0 + 1) ∅ 0) fun d => .rfl) $$ H8
  icases H11 with ⟨H11, H12⟩
  iframe

end Joins

end Cert.KernelIdeal.Talk

end
-- ==== Proof.SendA.lean ====
/- The first exchange: the barrier, the blocks' departures, the own block, the arrivals. -/
module

public import proofs.«01_k».proof.Proof.Joins

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

section Parts

variable (pb : Dev nD → Vec F S256x512 .bf16) (K : GSem nD τ sig → ℕ) (c : Dev nD)

theorem cond9 : k0_cond9 c = 1#1 ↔ c ≠ 0 := by revert c; decide
theorem cond10 : k0_cond10 c = 1#1 ↔ c ≠ 1 := by revert c; decide
theorem cond11 : k0_cond11 c = 1#1 ↔ c ≠ 2 := by revert c; decide
theorem cond12 : k0_cond12 c = 1#1 ↔ c ≠ 3 := by revert c; decide
theorem cond13 : k0_cond13 c = 1#1 ↔ c ≠ 4 := by revert c; decide
theorem cond14 : k0_cond14 c = 1#1 ↔ c ≠ 5 := by revert c; decide
theorem cond15 : k0_cond15 c = 1#1 ↔ c ≠ 6 := by revert c; decide
theorem cond16 : k0_cond16 c = 1#1 ↔ c ≠ 7 := by revert c; decide

theorem guardC {R : sProp 𝕄} {α : Type} (j : Dev nD) {P : Prop} [Decidable P] (hP : P ↔ c ≠ j)
    {a : P → Prog (TpuEff nD τ sig (Elt F) Λ₀ .tc) PUnit} {rest : Prog (TpuEff nD τ sig (Elt F) Λ₀ .tc) α} {Q : α → sProp 𝕄}
    (hstep : ∀ h : P, iprop(Ctx pb K c ∗ preC pb c j ∗ Ow c (oC c j.val)) ⊢ wpB c (a h) (fun _ => iprop(postC (F := F) c j ∗ Ow c (oC c (j.val + 1)))))
    (hk : iprop(Ctx pb K c ∗ fam c (preC pb c) (postC (F := F) c) (j.val + 1) ∗ Ow c (oC c (j.val + 1)) ∗ R) ⊢ wpB c rest Q) :
    iprop(Ctx pb K c ∗ fam c (preC pb c) (postC (F := F) c) j.val ∗ Ow c (oC c j.val) ∗ R)
      ⊢ wpB c (if h : P then a h >>= fun _ => rest else rest) Q :=
  guard j hP (oC_skip c) hstep hk

theorem store_p (f w : Vec F S256x512 .bf16) :
    (pM.access (Rect.unit (s := S256x512) ![0, 0] S256x512.size inb_S256x512_S256x512_0_0)).write (Elt F) f w Finset.univ = w := by
  funext i
  have hi : (pM.access (Rect.unit (s := S256x512) ![0, 0] S256x512.size inb_S256x512_S256x512_0_0)).emb i = i := by
    show (Rect.unit (s := S256x512) ![0, 0] S256x512.size inb_S256x512_S256x512_0_0).emb i = i
    funext a
    refine Fin.ext ?_
    fin_cases a
    · exact (Nat.zero_add _).trans (Nat.one_mul _)
    · exact (Nat.zero_add _).trans (Nat.one_mul _)
  conv_lhs => rw [← hi]
  exact View.write_emb_of_mem _ _ (Finset.mem_univ i)

attribute [local irreducible] Scalar.cmpi in
theorem run6 (f : Vec F S256x512 .bf16) (R : sProp 𝕄) (Q) (h0 h1 h2 h3 h4 h5) (v33 v153 v167 v181 v195 v209) (hpb : pb c = k0_pay21 v33 v153 v167 v181 v195 v209)
    (hQ : iprop(Ctx pb K c ∗ fam c (preC pb c) (postC (F := F) c) 7 ∗ Ow c (oC c 7)
        ∗ (atPos ER (barCell c) (0 + 1) ∅ 0 ∗ rowsPt c c (pb c) ∗ oth c (land3 (F := F) c) ∗ R))
      ⊢ Q (Scalar.extui (Scalar.cmpi .ne (v2of c) 7#32))) :
    iprop(Ctx pb K c ∗ (cred (tallyAt (barCell c) () 7) ∗ atPos ER (barCell c) 0 ∅ 0) ∗ Ow c (oC c 0) ∗ (pPt c f ∗ oth c (tokC (F := F) c) ∗ R))
      ⊢ wpB c (k0_part6 (F := F) aM h0 bM h1 oM h2 pM h3 r1M h4 r2M h5 cc0_scratch3 cc0_scratch4 cc0_scratch5 cc0_scratch6
          c (v2of c) v3 v33 v153 v167 v181 v195 v209) Q := by
  rw [k0_part6_eq_skeleton]
  unfold k0_part6_skel
  rw [← hpb]
  refine BIBase.Entails.trans (Q := iprop((Ctx pb K c ∗ (cred (tallyAt (barCell c) () 7) ∗ atPos ER (barCell c) 0 ∅ 0) ∗ Ow c (oC c 0)) ∗ pPt c f
      ∗ (oth c (tokC (F := F) c) ∗ R))) (by iintro ⟨#H1, H2, H3, H4, H5, H6⟩; iframe; iexact H1) ?_
  refine loadA (m := pM) (f := f) ?_
  refine storeA (m := pM) (f := f) ?_
  rw [store_p]
  refine wpB_seq (Mid := fun _ => iprop(((bigSep (Finset.univ.erase c) (fun d => barPay (F := F) c d) ∗ atPos ER (barCell c) (0 + 1) ∅ 0) ∗ Ow c (oC c 0))
      ∗ (Ctx pb K c ∗ pPt c (pb c) ∗ oth c (tokC (F := F) c) ∗ R)))
    (BIBase.Entails.trans ?_ (wpB_frame (bar_step pb K c))) fun _ => ?_
  · iintro ⟨⟨#H1, H2, H3⟩, H4, H5, H6⟩
    iframe
    isplitr <;> iexact H1
  refine BIBase.Entails.trans (Q := iprop(Ctx pb K c ∗ fam c (preC pb c) (postC (F := F) c) (0 : Dev nD).val ∗ Ow c (oC c (0 : Dev nD).val)
      ∗ (atPos ER (barCell c) (0 + 1) ∅ 0 ∗ rowsPt c c (pb c) ∗ oth c (land3 (F := F) c) ∗ R))) ?_ ?_
  · iintro ⟨⟨⟨H1, H2⟩, H3⟩, #H4, H5, H6, H7⟩
    ihave H := (join_C pb c) $$ [H1 H5 H6]
    · iframe
    icases H with ⟨H8, H9, H10⟩
    isplitr; · iexact H4
    isplitl [H8]; · iexact H8
    isplitl [H3]; · iexact H3
    iframe
  extract_lets -underBinder jp
  refine guardC pb K c (0 : Dev nD) (cond9 c) ?_ ?_
  · exact fun h => send1_step pb K ((cond9 c).mp h) (Fin.ext k0_dev9_eq) _ (k0_off2_eq c) _ rfl (sem_0 0 _ rfl) (sem_1 c _ (k0_off1_eq c))
  subst jp
  beta_reduce
  extract_lets -underBinder jp
  refine guardC pb K c (1 : Dev nD) (cond10 c) ?_ ?_
  · exact fun h => send1_step pb K ((cond10 c).mp h) (Fin.ext k0_dev10_eq) _ (k0_off4_eq c) _ rfl (sem_0 1 _ rfl) (sem_1 c _ (k0_off3_eq c))
  subst jp
  beta_reduce
  extract_lets -underBinder jp
  refine guardC pb K c (2 : Dev nD) (cond11 c) ?_ ?_
  · exact fun h => send1_step pb K ((cond11 c).mp h) (Fin.ext k0_dev11_eq) _ (k0_off6_eq c) _ rfl (sem_0 2 _ rfl) (sem_1 c _ (k0_off5_eq c))
  subst jp
  beta_reduce
  extract_lets -underBinder jp
  refine guardC pb K c (3 : Dev nD) (cond12 c) ?_ ?_
  · exact fun h => send1_step pb K ((cond12 c).mp h) (Fin.ext k0_dev12_eq) _ (k0_off8_eq c) _ rfl (sem_0 3 _ rfl) (sem_1 c _ (k0_off7_eq c))
  subst jp
  beta_reduce
  extract_lets -underBinder jp
  refine guardC pb K c (4 : Dev nD) (cond13 c) ?_ ?_
  · exact fun h => send1_step pb K ((cond13 c).mp h) (Fin.ext k0_dev13_eq) _ (k0_off10_eq c) _ rfl (sem_0 4 _ rfl) (sem_1 c _ (k0_off9_eq c))
  subst jp
  beta_reduce
  extract_lets -underBinder jp
  refine guardC pb K c (5 : Dev nD) (cond14 c) ?_ ?_
  · exact fun h => send1_step pb K ((cond14 c).mp h) (Fin.ext k0_dev14_eq) _ (k0_off12_eq c) _ rfl (sem_0 5 _ rfl) (sem_1 c _ (k0_off11_eq c))
  subst jp
  beta_reduce
  extract_lets -underBinder jp
  refine guardC pb K c (6 : Dev nD) (cond15 c) ?_ ?_
  · exact fun h => send1_step pb K ((cond15 c).mp h) (Fin.ext k0_dev15_eq) _ (k0_off14_eq c) _ rfl (sem_0 6 _ rfl) (sem_1 c _ (k0_off13_eq c))
  subst jp
  beta_reduce
  extract_lets
  exact ret_then hQ

end Parts

end Cert.KernelIdeal.Talk

end
-- ==== Proof.Copies.lean ====
/- Loads and stores of slots and blocks. -/
module

public import proofs.«01_k».proof.Proof.Joins

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

section Copies

variable (pb : Dev nD → Vec F S256x512 .bf16) (K : GSem nD τ sig → ℕ) (c : Dev nD)

/-- The own block of the product is read. -/
theorem load_rows {α : Type} (f : Vec F S256x512 .bf16) {o : Fin 2 → ℕ} (ho : o = ![32 * c.val, 0]) {i : ∀ a, o a + S32x512.size a ≤ S256x512.size a} {hl}
    {k : Vec F S32x512 .bf16 → Prog (TpuEff nD τ sig (Elt F) Λ₀ .tc) α} {P R : sProp 𝕄} {Q : α → sProp 𝕄}
    (hk : iprop(P ∗ rowsPt c c f ∗ R) ⊢ wpB c (k ((pM.access (Rect.unit (s := S256x512) ![32 * c.val, 0] S32x512.size (inb_rows c))).read (Elt F) f)) Q) :
    iprop(P ∗ rowsPt c c f ∗ R) ⊢ wpB c (Prog.lift (.load pM (Rect.unit (s := S256x512) o S32x512.size i).toLoadRect hl) >>= k) Q := by
  subst ho
  exact loadS pM (rowsM c).view.set fullShare (Finset.Subset.refl _) hk

/-- The own slot of the first exchange is read, and then written. -/
theorem load_own1 {α : Type} (f : Vec F S8x32x512 .bf16) {o : Fin 3 → ℕ} (ho : o = ![c.val, 0, 0]) {i : ∀ a, o a + S1x32x512.size a ≤ S8x32x512.size a} {hl}
    {k : Vec F S1x32x512 .bf16 → Prog (TpuEff nD τ sig (Elt F) Λ₀ .tc) α} {P R : sProp 𝕄} {Q : α → sProp 𝕄}
    (hk : ∀ v, iprop(P ∗ slot1 c c f ∗ R) ⊢ wpB c (k v) Q) :
    iprop(P ∗ slot1 c c f ∗ R) ⊢ wpB c (Prog.lift (.load r1M (Rect.unit (s := S8x32x512) o S1x32x512.size i).toLoadRect hl) >>= k) Q := by
  subst ho
  exact loadS r1M (slotM r1M c).view.set fullShare (access_slot1 c).subset (hk _)

theorem store_own1 {α : Type} (f : Vec F S8x32x512 .bf16) {o : Fin 3 → ℕ} (ho : o = ![c.val, 0, 0]) {i : ∀ a, o a + S1x32x512.size a ≤ S8x32x512.size a} {hx hm}
    {k : PUnit → Prog (TpuEff nD τ sig (Elt F) Λ₀ .tc) α} {P R : sProp 𝕄} {Q : α → sProp 𝕄}
    (hk : iprop(P ∗ slot1 c c (rb1 pb c) ∗ R) ⊢ wpB c (k ⟨⟩) Q) :
    iprop(P ∗ slot1 c c f ∗ R) ⊢ wpB c (Prog.lift (.store r1M (Rect.unit (s := S8x32x512) o S1x32x512.size i)
      (k0_pay22 ((pM.access (Rect.unit (s := S256x512) ![32 * c.val, 0] S32x512.size (inb_rows c))).read (Elt F) (pb c))) Finset.univ hx hm) >>= k) Q := by
  subst ho
  rw [← store1 pb c f] at hk
  exact storeS r1M (slotM r1M c).view.set (access_slot1 c).subset hk

/-- The own slot of the second exchange is read, and then written. -/
theorem load_own2 {α : Type} (f : Vec F S8x32x512 .bf16) {o : Fin 3 → ℕ} (ho : o = ![c.val, 0, 0]) {i : ∀ a, o a + S1x32x512.size a ≤ S8x32x512.size a} {hl}
    {k : Vec F S1x32x512 .bf16 → Prog (TpuEff nD τ sig (Elt F) Λ₀ .tc) α} {P R : sProp 𝕄} {Q : α → sProp 𝕄}
    (hk : ∀ v, iprop(P ∗ slot2 fullShare c c f ∗ R) ⊢ wpB c (k v) Q) :
    iprop(P ∗ slot2 fullShare c c f ∗ R) ⊢ wpB c (Prog.lift (.load r2M (Rect.unit (s := S8x32x512) o S1x32x512.size i).toLoadRect hl) >>= k) Q := by
  subst ho
  exact loadS r2M (slotM r2M c).view.set fullShare (access_slot2 c).subset (hk _)

theorem store_own2 {α : Type} (f : Vec F S8x32x512 .bf16) {o : Fin 3 → ℕ} (ho : o = ![c.val, 0, 0]) {i : ∀ a, o a + S1x32x512.size a ≤ S8x32x512.size a} {hx hm}
    {w : Vec F S1x32x512 .bf16} (hw : w = accOf pb c) {k : PUnit → Prog (TpuEff nD τ sig (Elt F) Λ₀ .tc) α} {P R : sProp 𝕄} {Q : α → sProp 𝕄}
    (hk : iprop(P ∗ slot2 fullShare c c (rb2 pb) ∗ R) ⊢ wpB c (k ⟨⟩) Q) :
    iprop(P ∗ slot2 fullShare c c f ∗ R) ⊢ wpB c (Prog.lift (.store r2M (Rect.unit (s := S8x32x512) o S1x32x512.size i) w Finset.univ hx hm) >>= k) Q := by
  subst ho hw
  rw [← store2 pb c f] at hk
  exact storeS r2M (slotM r2M c).view.set (access_slot2 c).subset hk

/-- A slot of the whole first landing array is read. -/
theorem load_r1 {α : Type} (s : Dev nD) (f : Vec F S8x32x512 .bf16) {o : Fin 3 → ℕ} (ho : o = ![s.val, 0, 0]) {i : ∀ a, o a + S1x32x512.size a ≤ S8x32x512.size a} {hl}
    {k : Vec F S1x32x512 .bf16 → Prog (TpuEff nD τ sig (Elt F) Λ₀ .tc) α} {P R : sProp 𝕄} {Q : α → sProp 𝕄}
    (hk : iprop(P ∗ r1Pt c f ∗ R) ⊢ wpB c (k (sl f s)) Q) :
    iprop(P ∗ r1Pt c f ∗ R) ⊢ wpB c (Prog.lift (.load r1M (Rect.unit (s := S8x32x512) o S1x32x512.size i).toLoadRect hl) >>= k) Q := by
  subst ho
  rw [← read_slot1 s f] at hk
  exact loadA (m := r1M) (f := f) hk

/-! ## The result, block by block -/

/-- The first `k` blocks of the result are there. -/
def outUp (k : ℕ) : sProp 𝕄 :=
  iprop(∃ f, oPt c f ∗ ⌜∀ i : S2x128x512.Idx, 4 * (i 0).val + (i 1).val / 32 < k → f i = outOf pb i⌝)

theorem outUp_zero (f : Vec F S2x128x512 .f32) : oPt c f ⊢ outUp pb c 0 := by
  unfold outUp
  iintro H
  iexists f
  iframe
  ipureintro
  exact fun i h => absurd h (Nat.not_lt_zero _)

theorem outUp_done : outUp pb c 8 ⊢ oPt c (outOf pb) := by
  unfold outUp
  iintro ⟨%f, H, %h⟩
  rw [show f = outOf pb from funext fun i => h i (by
    have h0 : (i 0).val < 2 := (i 0).isLt
    have h1 : (i 1).val < 128 := (i 1).isLt
    omega)]
  iexact H

theorem inb_out (s : Dev nD) : ∀ a, (![s.val / 4, s.val % 4 * 32, 0] : Fin 3 → ℕ) a + S1x32x512.size a ≤ S2x128x512.size a := by
  revert s; decide

theorem out_emb (s : Dev nD) (y : S1x32x512.Idx) :
    ((Rect.unit (s := S2x128x512) ![s.val / 4, s.val % 4 * 32, 0] S1x32x512.size (inb_out s)).emb y 0).val = s.val / 4
    ∧ ((Rect.unit (s := S2x128x512) ![s.val / 4, s.val % 4 * 32, 0] S1x32x512.size (inb_out s)).emb y 1).val = s.val % 4 * 32 + (y 1).val
    ∧ (Rect.unit (s := S2x128x512) ![s.val / 4, s.val % 4 * 32, 0] S1x32x512.size (inb_out s)).emb y 2 = y 2 := by
  have h0 : (y 0).val < 1 := (y 0).isLt
  refine ⟨?_, ?_, Fin.ext ?_⟩
  · show s.val / 4 + 1 * (y 0).val = s.val / 4; omega
  · show s.val % 4 * 32 + 1 * (y 1).val = _; omega
  · show 0 + 1 * (y 2).val = _; omega

theorem out_write (s : Dev nD) (f : Vec F S2x128x512 .f32)
    (h : ∀ i : S2x128x512.Idx, 4 * (i 0).val + (i 1).val / 32 < s.val → f i = outOf pb i) (i : S2x128x512.Idx) (hi : 4 * (i 0).val + (i 1).val / 32 < s.val + 1) :
    (oM.access (Rect.unit (s := S2x128x512) ![s.val / 4, s.val % 4 * 32, 0] S1x32x512.size (inb_out s))).write (Elt F) f (k0_pay25 (sl (rb2 pb) s)) Finset.univ i
      = outOf pb i := by
  have hs : s.val < 8 := s.isLt
  have h0 : (i 0).val < 2 := (i 0).isLt
  have h1 : (i 1).val < 128 := (i 1).isLt
  by_cases hlt : 4 * (i 0).val + (i 1).val / 32 < s.val
  · rw [View.write_of_not_mem, h i hlt]
    intro hm
    obtain ⟨y, -, rfl⟩ := Finset.mem_map.mp hm
    have e := out_emb s y
    have hy : (y 1).val < 32 := (y 1).isLt
    have e0 : ((oM.access (Rect.unit (s := S2x128x512) ![s.val / 4, s.val % 4 * 32, 0] S1x32x512.size (inb_out s))).emb y 0).val = s.val / 4 := e.1
    have e1 : ((oM.access (Rect.unit (s := S2x128x512) ![s.val / 4, s.val % 4 * 32, 0] S1x32x512.size (inb_out s))).emb y 1).val = s.val % 4 * 32 + (y 1).val := e.2.1
    omega
  · have e := out_emb s (ix3 0 ⟨(i 1).val % 32, Nat.mod_lt _ (by decide)⟩ (i 2))
    have hemb : (oM.access (Rect.unit (s := S2x128x512) ![s.val / 4, s.val % 4 * 32, 0] S1x32x512.size (inb_out s))).emb
        (ix3 0 ⟨(i 1).val % 32, Nat.mod_lt _ (by decide)⟩ (i 2)) = i := by
      refine (eq_ix3 _).trans ((?_ : _ = ix3 (i 0) (i 1) (i 2)).trans (eq_ix3 i).symm)
      congr 1
      · exact Fin.ext (e.1.trans (by omega))
      · exact Fin.ext (e.2.1.trans (by show s.val % 4 * 32 + (i 1).val % 32 = _; omega))
      · exact e.2.2
    conv_lhs => rw [← hemb]
    rw [View.write_emb_of_mem _ _ (Finset.mem_univ _)]
    show k0_pay25 (sl (rb2 pb) s) _ = k0_pay25 (sl (rb2 pb) _) _
    congr 3
    exact Fin.ext (by show s.val = 4 * (i 0).val + (i 1).val / 32; omega)

/-- While the blocks of the second exchange arrive and are copied out. -/
abbrev HS (k m : ℕ) (R : sProp 𝕄) : sProp 𝕄 :=
  iprop(Ctx pb K c ∗ fam c (preW (F := F) 3 c) (postW pb 3 c) k ∗ Ow c 0 ∗ (slot2 (lf c) c c (rb2 pb) ∗ outUp pb c m ∗ R))

theorem fam_get {j : Dev nD} {Φ Ψ : Dev nD → sProp 𝕄} {k : ℕ} (h : c ≠ j) (hk : j.val < k) : fam c Φ Ψ k ⊢ iprop(Ψ j ∗ (Ψ j -∗ fam c Φ Ψ k)) := by
  have hj : j ∈ Finset.univ.erase c := Finset.mem_erase.mpr ⟨h.symm, Finset.mem_univ _⟩
  unfold fam
  rw [bigSep_erase hj, if_pos hk]
  generalize bigSep ((Finset.univ.erase c).erase j) (fun x : Dev nD => if x.val < k then Ψ x else Φ x) = X
  change iprop(Ψ j ∗ X) ⊢ iprop(Ψ j ∗ (Ψ j -∗ iprop(Ψ j ∗ X)))
  iintro ⟨H1, H2⟩
  isplitl [H1]; · iexact H1
  iintro H3
  isplitl [H3] <;> iassumption

theorem copy_load {α : Type} (s : Dev nD) {n m : ℕ} (hn : s.val < n) {o : Fin 3 → ℕ} (ho : o = ![s.val, 0, 0])
    {i : ∀ a, o a + S1x32x512.size a ≤ S8x32x512.size a} {hl} {k : Vec F S1x32x512 .bf16 → Prog (TpuEff nD τ sig (Elt F) Λ₀ .tc) α} {R : sProp 𝕄} {Q : α → sProp 𝕄}
    (hk : HS pb K c n m R ⊢ wpB c (k (sl (rb2 pb) s)) Q) :
    HS pb K c n m R ⊢ wpB c (Prog.lift (.load r2M (Rect.unit (s := S8x32x512) o S1x32x512.size i).toLoadRect hl) >>= k) Q := by
  subst ho
  rw [← read_slot2 s (rb2 pb)] at hk
  by_cases h : c = s
  · subst h
    refine BIBase.Entails.trans (Q := iprop((Ctx pb K c ∗ fam c (preW (F := F) 3 c) (postW pb 3 c) n ∗ Ow c 0) ∗ slot2 (lf c) c c (rb2 pb) ∗ (outUp pb c m ∗ R))) ?_
      (loadS r2M (slotM r2M c).view.set (lf c) (access_slot2 c).subset (BIBase.Entails.trans ?_ hk))
    · iintro ⟨#H1, H2, H3, H4, H5, H6⟩; iframe; iexact H1
    · iintro ⟨⟨#H1, H2, H3⟩, H4, H5, H6⟩; isplitr; · iexact H1
      iframe
  · refine BIBase.Entails.trans (Q := iprop((Ctx pb K c ∗ atPos ER (dcell 3 c s) (0 + 1) ∅ 0 ∗ (postW pb 3 c s -∗ fam c (preW (F := F) 3 c) (postW pb 3 c) n) ∗ Ow c 0)
        ∗ slot2 fullShare c s (rb2 pb) ∗ (slot2 (lf c) c c (rb2 pb) ∗ outUp pb c m ∗ R))) ?_
      (loadS r2M (slotM r2M s).view.set fullShare (access_slot2 s).subset (BIBase.Entails.trans ?_ hk))
    · have h3 := fam_get (F := F) c (Φ := preW 3 c) (Ψ := postW pb 3 c) h hn
      rw [show postW pb 3 c s = iprop(slot2 fullShare c s (rb2 pb) ∗ atPos ER (dcell 3 c s) (0 + 1) ∅ 0) from by unfold postW; rw [payload_3]] at h3 ⊢
      iintro ⟨#H1, H2, H3, H4, H5, H6⟩
      ihave H7 := h3 $$ H2
      icases H7 with ⟨H7, H8⟩
      icases H7 with ⟨H7, H9⟩
      isplitr [H7 H4 H5 H6]
      · isplitr; · iexact H1
        isplitl [H9]; · iexact H9
        isplitl [H8] <;> iassumption
      · isplitl [H7]; · iexact H7
        iframe
    · rw [show postW pb 3 c s = iprop(slot2 fullShare c s (rb2 pb) ∗ atPos ER (dcell 3 c s) (0 + 1) ∅ 0) from by unfold postW; rw [payload_3]]
      iintro ⟨⟨#H1, H2, H3, H4⟩, H5, H6, H7, H8⟩
      isplitr; · iexact H1
      isplitl [H2 H3 H5]
      · iapply H3
        isplitl [H5]; · iexact H5
        iexact H2
      · iframe

theorem copy_store {α : Type} (s : Dev nD) {n : ℕ} {o o' : Fin 3 → ℕ} (ho : o = ![s.val / 4, s.val % 4 * 32, 0]) {i : ∀ a, o a + S1x32x512.size a ≤ S2x128x512.size a}
    {i' : ∀ a, o' a + S1x32x512.size a ≤ S2x128x512.size a} {hl hx hm} {w : Vec F S1x32x512 .f32} (hw : w = k0_pay25 (sl (rb2 pb) s))
    {k : PUnit → Prog (TpuEff nD τ sig (Elt F) Λ₀ .tc) α} {R : sProp 𝕄} {Q : α → sProp 𝕄}
    (hk : HS pb K c n (s.val + 1) R ⊢ wpB c (k ⟨⟩) Q) :
    HS pb K c n s.val R ⊢ wpB c (Prog.lift (.load oM (Rect.unit (s := S2x128x512) o' S1x32x512.size i').toLoadRect hl) >>= fun _ =>
      Prog.lift (.store oM (Rect.unit (s := S2x128x512) o S1x32x512.size i) w Finset.univ hx hm) >>= k) Q := by
  subst ho hw
  have key : ∀ f : Vec F S2x128x512 .f32, (∀ i : S2x128x512.Idx, 4 * (i 0).val + (i 1).val / 32 < s.val → f i = outOf pb i) →
      iprop((Ctx pb K c ∗ fam c (preW (F := F) 3 c) (postW pb 3 c) n ∗ Ow c 0) ∗ oPt c f ∗ (slot2 (lf c) c c (rb2 pb) ∗ R))
        ⊢ wpB c (Prog.lift (.load oM (Rect.unit (s := S2x128x512) o' S1x32x512.size i').toLoadRect hl) >>= fun _ =>
      Prog.lift (.store oM (Rect.unit (s := S2x128x512) ![s.val / 4, s.val % 4 * 32, 0] S1x32x512.size i) (k0_pay25 (sl (rb2 pb) s)) Finset.univ hx hm) >>= k) Q := by
    intro f hf
    refine loadA (m := oM) (f := f) ?_
    refine storeA (m := oM) (f := f) (BIBase.Entails.trans ?_ hk)
    iintro ⟨⟨#H1, H2, H3⟩, H4, H5, H6⟩
    isplitr; · iexact H1
    isplitl [H2]; · iexact H2
    isplitl [H3]; · iexact H3
    isplitl [H5]; · iexact H5
    isplitl [H4]
    · unfold outUp
      iexists _
      isplitl [H4]; · iexact H4
      ipureintro
      exact out_write pb s f hf
    · iexact H6
  unfold HS outUp
  iintro ⟨#H1, H2, H3, H4, ⟨%f, H5, %hf⟩, H6⟩
  iapply (key f hf)
  isplitl [H2 H3]
  · isplitr; · iexact H1
    isplitl [H2] <;> iassumption
  isplitl [H5]; · iexact H5
  isplitl [H4] <;> iassumption

end Copies

end Cert.KernelIdeal.Talk

end
-- ==== Proof.SendB.lean ====
/- The first exchange's end, the sum of the arrivals, and the second exchange. -/
module

public import proofs.«01_k».proof.Proof.SendA
public import proofs.«01_k».proof.Proof.Copies

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

section Parts

variable (pb : Dev nD → Vec F S256x512 .bf16) (K : GSem nD τ sig → ℕ) (c : Dev nD)

theorem cond25 : k0_cond25 c = 1#1 ↔ c ≠ 0 := by revert c; decide
theorem cond26 : k0_cond26 c = 1#1 ↔ c ≠ 1 := by revert c; decide
theorem cond27 : k0_cond27 c = 1#1 ↔ c ≠ 2 := by revert c; decide
theorem cond28 : k0_cond28 c = 1#1 ↔ c ≠ 3 := by revert c; decide
theorem cond29 : k0_cond29 c = 1#1 ↔ c ≠ 4 := by revert c; decide
theorem cond30 : k0_cond30 c = 1#1 ↔ c ≠ 5 := by revert c; decide
theorem cond31 : k0_cond31 c = 1#1 ↔ c ≠ 6 := by revert c; decide
theorem cond32 : k0_cond32 c = 1#1 ↔ c ≠ 7 := by revert c; decide

theorem guardG {R : sProp 𝕄} {α : Type} (j : Dev nD) {P : Prop} [Decidable P] (hP : P ↔ c ≠ j)
    {a : P → Prog (TpuEff nD τ sig (Elt F) Λ₀ .tc) PUnit} {rest : Prog (TpuEff nD τ sig (Elt F) Λ₀ .tc) α} {Q : α → sProp 𝕄}
    (hstep : ∀ h : P, iprop(Ctx pb K c ∗ preG pb c j ∗ Ow c (oG c j.val)) ⊢ wpB c (a h) (fun _ => iprop(postG (F := F) c j ∗ Ow c (oG c (j.val + 1)))))
    (hk : iprop(Ctx pb K c ∗ fam c (preG pb c) (postG (F := F) c) (j.val + 1) ∗ Ow c (oG c (j.val + 1)) ∗ R) ⊢ wpB c rest Q) :
    iprop(Ctx pb K c ∗ fam c (preG pb c) (postG (F := F) c) j.val ∗ Ow c (oG c j.val) ∗ R)
      ⊢ wpB c (if h : P then a h >>= fun _ => rest else rest) Q :=
  guard j hP (oG_skip c) hstep hk

attribute [local irreducible] Scalar.cmpi in
theorem run7 (f : Vec F S8x32x512 .bf16) (R : sProp 𝕄) (Q) (h0 h1 h2 h3 h4 h5)
    (hQ : iprop(Ctx pb K c ∗ fam c (preW (F := F) 1 c) (postW pb 1 c) 7 ∗ Ow c (oG c 0) ∗ (slot1 c c (rb1 pb c) ∗ oth c (postC (F := F) c) ∗ rowsPt c c (pb c) ∗ R))
      ⊢ Q (Scalar.extui (Scalar.cmpi .ne (v2of c) 7#32))) (v240) :
    iprop(Ctx pb K c ∗ fam c (preC pb c) (postC (F := F) c) 7 ∗ Ow c (oC c 7) ∗ (slot1 c c f ∗ rowsPt c c (pb c) ∗ oth c (preW (F := F) 1 c) ∗ R))
      ⊢ wpB c (k0_part7 (F := F) aM h0 bM h1 oM h2 pM h3 r1M h4 r2M h5 cc0_scratch3 cc0_scratch4 cc0_scratch5 cc0_scratch6
          c (v2of c) v240) Q := by
  rw [k0_part7_eq_skeleton]
  unfold k0_part7_skel
  extract_lets -underBinder jp
  refine guardC pb K c (7 : Dev nD) (cond16 c) ?_ ?_
  · exact fun h => send1_step pb K ((cond16 c).mp h) (Fin.ext k0_dev16_eq) _ (k0_off16_eq c) _ rfl (sem_0 7 _ rfl) (sem_1 c _ (k0_off15_eq c))
  subst jp
  beta_reduce
  refine BIBase.Entails.trans (Q := iprop((Ctx pb K c ∗ oth c (postC (F := F) c) ∗ Ow c (oG c 0) ∗ slot1 c c f) ∗ rowsPt c c (pb c) ∗ (oth c (preW (F := F) 1 c) ∗ R))) ?_ ?_
  · rw [show (7 : Dev nD).val + 1 = 8 from rfl, fam_done, oC_done]
    iintro ⟨#H1, H2, H3, H4, H5, H6, H7⟩; iframe; iexact H1
  refine load_rows c (pb c) (k0_off17_eq c) ?_
  refine BIBase.Entails.trans (Q := iprop((Ctx pb K c ∗ oth c (postC (F := F) c) ∗ Ow c (oG c 0) ∗ rowsPt c c (pb c)) ∗ slot1 c c f ∗ (oth c (preW (F := F) 1 c) ∗ R))) ?_ ?_
  · iintro ⟨⟨#H1, H2, H3, H4⟩, H5, H6, H7⟩; iframe; iexact H1
  refine load_own1 c f (k0_off18_eq c) fun _ => ?_
  refine store_own1 pb c f (k0_off18_eq c) ?_
  refine BIBase.Entails.trans (Q := iprop(Ctx pb K c ∗ fam c (preW (F := F) 1 c) (postW pb 1 c) (0 : Dev nD).val ∗ Ow c (oG c 0)
      ∗ (slot1 c c (rb1 pb c) ∗ oth c (postC (F := F) c) ∗ rowsPt c c (pb c) ∗ R))) ?_ ?_
  · rw [show fam c (preW (F := F) 1 c) (postW pb 1 c) (0 : Dev nD).val = oth c (preW (F := F) 1 c) from fam_zero]
    iintro ⟨⟨#H1, H2, H3, H4⟩, H5, H6, H7⟩; iframe; iexact H1
  extract_lets -underBinder _ _ _ jp
  refine guardW pb K c 1 (oG c 0) (0 : Dev nD) (wcond c 0) (may_dma 1 (by decide) c 0 0) ?_ ?_ ?_
  · exact sem_1 0 _ rfl
  · rfl
  subst jp
  beta_reduce
  extract_lets -underBinder _ _ _ jp
  refine guardW pb K c 1 (oG c 0) (1 : Dev nD) (wcond c 1) (may_dma 1 (by decide) c 1 0) ?_ ?_ ?_
  · exact sem_1 1 _ rfl
  · rfl
  subst jp
  beta_reduce
  extract_lets -underBinder _ _ _ jp
  refine guardW pb K c 1 (oG c 0) (2 : Dev nD) (wcond c 2) (may_dma 1 (by decide) c 2 0) ?_ ?_ ?_
  · exact sem_1 2 _ rfl
  · rfl
  subst jp
  beta_reduce
  extract_lets -underBinder _ _ _ jp
  refine guardW pb K c 1 (oG c 0) (3 : Dev nD) (wcond c 3) (may_dma 1 (by decide) c 3 0) ?_ ?_ ?_
  · exact sem_1 3 _ rfl
  · rfl
  subst jp
  beta_reduce
  extract_lets -underBinder _ _ _ jp
  refine guardW pb K c 1 (oG c 0) (4 : Dev nD) (wcond c 4) (may_dma 1 (by decide) c 4 0) ?_ ?_ ?_
  · exact sem_1 4 _ rfl
  · rfl
  subst jp
  beta_reduce
  extract_lets -underBinder _ _ _ jp
  refine guardW pb K c 1 (oG c 0) (5 : Dev nD) (wcond c 5) (may_dma 1 (by decide) c 5 0) ?_ ?_ ?_
  · exact sem_1 5 _ rfl
  · rfl
  subst jp
  beta_reduce
  extract_lets -underBinder _ _ _ jp
  refine guardW pb K c 1 (oG c 0) (6 : Dev nD) (wcond c 6) (may_dma 1 (by decide) c 6 0) ?_ ?_ ?_
  · exact sem_1 6 _ rfl
  · rfl
  subst jp
  beta_reduce
  extract_lets
  exact ret_then hQ

attribute [local irreducible] Scalar.cmpi in
theorem run8 (R : sProp 𝕄) (Q) (h0 h1 h2 h3 h4 h5)
    (hQ : iprop((Ctx pb K c ∗ Ow c (oG c 0)) ∗ r1Pt c (rb1 pb c) ∗ (oth c (fun s => atPos ER (dcell 1 c s) (0 + 1) ∅ 0) ∗ R))
      ⊢ Q (k0_pay23 (sl (rb1 pb c) 0) (sl (rb1 pb c) 1) (sl (rb1 pb c) 2) (sl (rb1 pb c) 3) (sl (rb1 pb c) 4) (sl (rb1 pb c) 5) (sl (rb1 pb c) 6) (sl (rb1 pb c) 7))) :
    iprop(Ctx pb K c ∗ fam c (preW (F := F) 1 c) (postW pb 1 c) 7 ∗ Ow c (oG c 0) ∗ (slot1 c c (rb1 pb c) ∗ R))
      ⊢ wpB c (k0_part8 (F := F) aM h0 bM h1 oM h2 pM h3 r1M h4 r2M h5 cc0_scratch3 cc0_scratch4 cc0_scratch5 cc0_scratch6
          (v2of c) (Scalar.extui (Scalar.cmpi .ne (v2of c) 7#32))) Q := by
  rw [k0_part8_eq_skeleton]
  unfold k0_part8_skel
  extract_lets -underBinder _ jp
  refine guardW pb K c 1 (oG c 0) (7 : Dev nD) (wcond c 7) (may_dma 1 (by decide) c 7 0) ?_ ?_ ?_
  · exact sem_1 7 _ rfl
  · rfl
  subst jp
  beta_reduce
  refine BIBase.Entails.trans (Q := iprop((Ctx pb K c ∗ Ow c (oG c 0)) ∗ r1Pt c (rb1 pb c) ∗ (oth c (fun s => atPos ER (dcell 1 c s) (0 + 1) ∅ 0) ∗ R))) ?_ ?_
  · iintro ⟨#H1, H2, H3, H4, H5⟩
    ihave H6 := (join_E pb c) $$ [H2 H4]
    · isplitl [H2]; · iexact H2
      iexact H4
    icases H6 with ⟨H6, H7⟩
    iframe
    iexact H1
  refine load_r1 c 0 (rb1 pb c) rfl ?_
  refine load_r1 c 1 (rb1 pb c) rfl ?_
  refine load_r1 c 2 (rb1 pb c) rfl ?_
  refine load_r1 c 3 (rb1 pb c) rfl ?_
  refine load_r1 c 4 (rb1 pb c) rfl ?_
  refine load_r1 c 5 (rb1 pb c) rfl ?_
  refine load_r1 c 6 (rb1 pb c) rfl ?_
  refine load_r1 c 7 (rb1 pb c) rfl ?_
  exact ret_then hQ

attribute [local irreducible] Scalar.cmpi in
theorem run9 (f : Vec F S8x32x512 .bf16) (g : Vec F S2x128x512 .f32) (R : sProp 𝕄) (Q) (h0 h1 h2 h3 h4 h5)
    (hQ : HS pb K c 1 0 (iprop(oth c (postG (F := F) c) ∗ R)) ⊢ Q ⟨⟩) (v304) (h304 : k0_pay24 v304 = accOf pb c) :
    iprop((Ctx pb K c ∗ Ow c (oG c 0)) ∗ slot2 fullShare c c f ∗ (oPt c g ∗ oth c (land3 (F := F) c) ∗ oth c (tokG (F := F) c) ∗ oth c (preW (F := F) 3 c) ∗ R))
      ⊢ wpB c (k0_part9 (F := F) aM h0 bM h1 oM h2 pM h3 r1M h4 r2M h5 cc0_scratch3 cc0_scratch4 cc0_scratch5 cc0_scratch6
          c (v2of c) v304) Q := by
  rw [k0_part9_eq_skeleton]
  unfold k0_part9_skel
  refine load_own2 c f (k0_off18_eq c) fun _ => ?_
  refine store_own2 pb c f (k0_off18_eq c) h304 ?_
  refine BIBase.Entails.trans (Q := iprop(Ctx pb K c ∗ fam c (preG pb c) (postG (F := F) c) (0 : Dev nD).val ∗ Ow c (oG c (0 : Dev nD).val)
      ∗ (slot2 (lf c) c c (rb2 pb) ∗ outUp pb c 0 ∗ oth c (preW (F := F) 3 c) ∗ R))) ?_ ?_
  · iintro ⟨⟨#H1, H2⟩, H3, H4, H5, H6, H7, H8⟩
    ihave H := (join_G pb c) $$ [H3 H5 H6]
    · iframe
    icases H with ⟨H9, H10⟩
    ihave H11 := (outUp_zero pb c g) $$ H4
    isplitr; · iexact H1
    isplitl [H9]; · iexact H9
    isplitl [H2]; · iexact H2
    iframe
  extract_lets -underBinder jp
  refine guardG pb K c (0 : Dev nD) (cond25 c) ?_ ?_
  · exact fun h => send2_step pb K ((cond25 c).mp h) (Fin.ext k0_dev17_eq) _ (k0_off20_eq c) (sem_2 0 _ rfl) (sem_3 c _ (k0_off19_eq c))
  subst jp
  beta_reduce
  extract_lets -underBinder jp
  refine guardG pb K c (1 : Dev nD) (cond26 c) ?_ ?_
  · exact fun h => send2_step pb K ((cond26 c).mp h) (Fin.ext k0_dev18_eq) _ (k0_off22_eq c) (sem_2 1 _ rfl) (sem_3 c _ (k0_off21_eq c))
  subst jp
  beta_reduce
  extract_lets -underBinder jp
  refine guardG pb K c (2 : Dev nD) (cond27 c) ?_ ?_
  · exact fun h => send2_step pb K ((cond27 c).mp h) (Fin.ext k0_dev19_eq) _ (k0_off24_eq c) (sem_2 2 _ rfl) (sem_3 c _ (k0_off23_eq c))
  subst jp
  beta_reduce
  extract_lets -underBinder jp
  refine guardG pb K c (3 : Dev nD) (cond28 c) ?_ ?_
  · exact fun h => send2_step pb K ((cond28 c).mp h) (Fin.ext k0_dev20_eq) _ (k0_off26_eq c) (sem_2 3 _ rfl) (sem_3 c _ (k0_off25_eq c))
  subst jp
  beta_reduce
  extract_lets -underBinder jp
  refine guardG pb K c (4 : Dev nD) (cond29 c) ?_ ?_
  · exact fun h => send2_step pb K ((cond29 c).mp h) (Fin.ext k0_dev21_eq) _ (k0_off28_eq c) (sem_2 4 _ rfl) (sem_3 c _ (k0_off27_eq c))
  subst jp
  beta_reduce
  extract_lets -underBinder jp
  refine guardG pb K c (5 : Dev nD) (cond30 c) ?_ ?_
  · exact fun h => send2_step pb K ((cond30 c).mp h) (Fin.ext k0_dev22_eq) _ (k0_off30_eq c) (sem_2 5 _ rfl) (sem_3 c _ (k0_off29_eq c))
  subst jp
  beta_reduce
  extract_lets -underBinder jp
  refine guardG pb K c (6 : Dev nD) (cond31 c) ?_ ?_
  · exact fun h => send2_step pb K ((cond31 c).mp h) (Fin.ext k0_dev23_eq) _ (k0_off32_eq c) (sem_2 6 _ rfl) (sem_3 c _ (k0_off31_eq c))
  subst jp
  beta_reduce
  extract_lets -underBinder jp
  refine guardG pb K c (7 : Dev nD) (cond32 c) ?_ ?_
  · exact fun h => send2_step pb K ((cond32 c).mp h) (Fin.ext k0_dev24_eq) _ (k0_off34_eq c) (sem_2 7 _ rfl) (sem_3 c _ (k0_off33_eq c))
  subst jp
  beta_reduce
  refine BIBase.Entails.trans (Q := iprop(Ctx pb K c ∗ fam c (preW (F := F) 3 c) (postW pb 3 c) (0 : Dev nD).val ∗ Ow c 0
      ∗ (slot2 (lf c) c c (rb2 pb) ∗ outUp pb c 0 ∗ oth c (postG (F := F) c) ∗ R))) ?_ ?_
  · rw [show fam c (preW (F := F) 3 c) (postW pb 3 c) (0 : Dev nD).val = oth c (preW (F := F) 3 c) from fam_zero,
      show (7 : Dev nD).val + 1 = 8 from rfl, fam_done, oG_done]
    iintro ⟨#H1, H2, H3, H4, H5, H6, H7⟩; iframe; iexact H1
  extract_lets -underBinder _ _ _ jp
  refine guardW pb K c 3 0 (0 : Dev nD) (wcond c 0) (mayWait_none c 3 0) ?_ ?_ ?_
  · exact sem_3 0 _ rfl
  · rfl
  subst jp
  beta_reduce
  exact ret_then hQ

end Parts

end Cert.KernelIdeal.Talk

end
-- ==== Proof.Tail.lean ====
/- The arrivals of the second exchange, their copies to the result, and the last waits. -/
module

public import proofs.«01_k».proof.Proof.Copies

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

section Parts

variable (pb : Dev nD → Vec F S256x512 .bf16) (K : GSem nD τ sig → ℕ) (c : Dev nD)

attribute [local irreducible] Scalar.cmpi in
theorem run10 (R : sProp 𝕄) (Q) (h0 h1 h2 h3 h4 h5)
    (hQ : HS pb K c 4 3 R ⊢ Q ⟨⟩) :
    HS pb K c 1 0 R
      ⊢ wpB c (k0_part10 (F := F) aM h0 bM h1 oM h2 pM h3 r1M h4 r2M h5 cc0_scratch3 cc0_scratch4 cc0_scratch5 cc0_scratch6
          (v2of c)) Q := by
  rw [k0_part10_eq_skeleton]
  unfold k0_part10_skel
  refine copy_load pb K c 0 (n := (0 : Dev nD).val + 1) (m := (0 : Dev nD).val) (Nat.lt_succ_self _) rfl ?_
  refine copy_store pb K c 0 (n := (0 : Dev nD).val + 1) rfl rfl ?_
  extract_lets -underBinder _ _ _ jp
  refine guardW pb K c 3 0 (1 : Dev nD) (wcond c 1) (mayWait_none c 3 1) ?_ ?_ ?_
  · exact sem_3 1 _ rfl
  · rfl
  subst jp
  beta_reduce
  refine copy_load pb K c 1 (n := (1 : Dev nD).val + 1) (m := (1 : Dev nD).val) (Nat.lt_succ_self _) rfl ?_
  refine copy_store pb K c 1 (n := (1 : Dev nD).val + 1) rfl rfl ?_
  extract_lets -underBinder _ _ _ jp
  refine guardW pb K c 3 0 (2 : Dev nD) (wcond c 2) (mayWait_none c 3 2) ?_ ?_ ?_
  · exact sem_3 2 _ rfl
  · rfl
  subst jp
  beta_reduce
  refine copy_load pb K c 2 (n := (2 : Dev nD).val + 1) (m := (2 : Dev nD).val) (Nat.lt_succ_self _) rfl ?_
  refine copy_store pb K c 2 (n := (2 : Dev nD).val + 1) rfl rfl ?_
  extract_lets -underBinder _ _ _ jp
  refine guardW pb K c 3 0 (3 : Dev nD) (wcond c 3) (mayWait_none c 3 3) ?_ ?_ ?_
  · exact sem_3 3 _ rfl
  · rfl
  subst jp
  beta_reduce
  exact ret_then hQ

attribute [local irreducible] Scalar.cmpi in
theorem run11 (R : sProp 𝕄) (Q) (h0 h1 h2 h3 h4 h5)
    (hQ : HS pb K c 7 6 R ⊢ Q (k0_pay31 (sl (rb2 pb) 6))) :
    HS pb K c 4 3 R
      ⊢ wpB c (k0_part11 (F := F) aM h0 bM h1 oM h2 pM h3 r1M h4 r2M h5 cc0_scratch3 cc0_scratch4 cc0_scratch5 cc0_scratch6
          (v2of c)) Q := by
  rw [k0_part11_eq_skeleton]
  unfold k0_part11_skel
  refine copy_load pb K c 3 (n := (3 : Dev nD).val + 1) (m := (3 : Dev nD).val) (Nat.lt_succ_self _) rfl ?_
  refine copy_store pb K c 3 (n := (3 : Dev nD).val + 1) rfl rfl ?_
  extract_lets -underBinder _ _ _ jp
  refine guardW pb K c 3 0 (4 : Dev nD) (wcond c 4) (mayWait_none c 3 4) ?_ ?_ ?_
  · exact sem_3 4 _ rfl
  · rfl
  subst jp
  beta_reduce
  refine copy_load pb K c 4 (n := (4 : Dev nD).val + 1) (m := (4 : Dev nD).val) (Nat.lt_succ_self _) rfl ?_
  refine copy_store pb K c 4 (n := (4 : Dev nD).val + 1) rfl rfl ?_
  extract_lets -underBinder _ _ _ jp
  refine guardW pb K c 3 0 (5 : Dev nD) (wcond c 5) (mayWait_none c 3 5) ?_ ?_ ?_
  · exact sem_3 5 _ rfl
  · rfl
  subst jp
  beta_reduce
  refine copy_load pb K c 5 (n := (5 : Dev nD).val + 1) (m := (5 : Dev nD).val) (Nat.lt_succ_self _) rfl ?_
  refine copy_store pb K c 5 (n := (5 : Dev nD).val + 1) rfl rfl ?_
  extract_lets -underBinder _ _ _ jp
  refine guardW pb K c 3 0 (6 : Dev nD) (wcond c 6) (mayWait_none c 3 6) ?_ ?_ ?_
  · exact sem_3 6 _ rfl
  · rfl
  subst jp
  beta_reduce
  refine copy_load pb K c 6 (n := (6 : Dev nD).val + 1) (m := (6 : Dev nD).val) (Nat.lt_succ_self _) rfl ?_
  exact ret_then hQ

attribute [local irreducible] Scalar.cmpi in
theorem run12 (R : sProp 𝕄) (Q) (h0 h1 h2 h3 h4 h5)
    (hQ : iprop(Ctx pb K c ∗ fam c (preI (F := F) c) (postI pb c) 5 ∗ Ow c 0 ∗ (fam c (preW (F := F) 3 c) (postW pb 3 c) 8 ∗ slot2 (lf c) c c (rb2 pb) ∗ outUp pb c 8 ∗ R)) ⊢ Q ⟨Scalar.extui (Scalar.cmpi .ne (v2of c) 5#32), 0#32⟩) :
    HS pb K c 7 6 (iprop(oth c (postC (F := F) c) ∗ oth c (postG (F := F) c) ∗ oth c (fun s => atPos ER (dcell 0 c s) 0 ∅ 0) ∗ oth c (fun s => atPos ER (dcell 2 c s) 0 ∅ 0) ∗ R))
      ⊢ wpB c (k0_part12 (F := F) aM h0 bM h1 oM h2 pM h3 r1M h4 r2M h5 cc0_scratch3 cc0_scratch4 cc0_scratch5 cc0_scratch6
          (v2of c) (k0_pay31 (sl (rb2 pb) 6))) Q := by
  rw [k0_part12_eq_skeleton]
  unfold k0_part12_skel
  refine copy_store pb K c 6 (n := (6 : Dev nD).val + 1) rfl rfl ?_
  extract_lets -underBinder _ _ _ jp
  refine guardW pb K c 3 0 (7 : Dev nD) (wcond c 7) (mayWait_none c 3 7) ?_ ?_ ?_
  · exact sem_3 7 _ rfl
  · rfl
  subst jp
  beta_reduce
  refine copy_load pb K c 7 (n := (7 : Dev nD).val + 1) (m := (7 : Dev nD).val) (Nat.lt_succ_self _) rfl ?_
  refine copy_store pb K c 7 (n := (7 : Dev nD).val + 1) rfl rfl ?_
  refine BIBase.Entails.trans (Q := iprop(Ctx pb K c ∗ fam c (preI (F := F) c) (postI pb c) (0 : Dev nD).val ∗ Ow c 0 ∗ (fam c (preW (F := F) 3 c) (postW pb 3 c) 8 ∗ slot2 (lf c) c c (rb2 pb) ∗ outUp pb c 8 ∗ R))) ?_ ?_
  · iintro ⟨#H1, H2, H3, H4, H5, H6, H7, H8, H9, H10⟩
    ihave H := (join_I pb c) $$ [H6 H7 H8 H9]
    · iframe
    isplitr; · iexact H1
    isplitl [H]; · iexact H
    isplitl [H3]; · iexact H3
    isplitl [H2]; · iexact H2
    isplitl [H4]; · iexact H4
    isplitl [H5]; · iexact H5
    iexact H10
  extract_lets -underBinder _ _ _ jp
  refine guardI pb K c (0 : Dev nD) (wcond c 0) ?_ ?_ ?_ ?_ ?_
  · exact sem_0 0 _ rfl
  · rfl
  · exact sem_2 0 _ rfl
  · rfl
  subst jp
  beta_reduce
  extract_lets -underBinder _ _ _ jp
  refine guardI pb K c (1 : Dev nD) (wcond c 1) ?_ ?_ ?_ ?_ ?_
  · exact sem_0 1 _ rfl
  · rfl
  · exact sem_2 1 _ rfl
  · rfl
  subst jp
  beta_reduce
  extract_lets -underBinder _ _ _ jp
  refine guardI pb K c (2 : Dev nD) (wcond c 2) ?_ ?_ ?_ ?_ ?_
  · exact sem_0 2 _ rfl
  · rfl
  · exact sem_2 2 _ rfl
  · rfl
  subst jp
  beta_reduce
  extract_lets -underBinder _ _ _ jp
  refine guardI pb K c (3 : Dev nD) (wcond c 3) ?_ ?_ ?_ ?_ ?_
  · exact sem_0 3 _ rfl
  · rfl
  · exact sem_2 3 _ rfl
  · rfl
  subst jp
  beta_reduce
  extract_lets -underBinder _ _ _ jp
  refine guardI pb K c (4 : Dev nD) (wcond c 4) ?_ ?_ ?_ ?_ ?_
  · exact sem_0 4 _ rfl
  · rfl
  · exact sem_2 4 _ rfl
  · rfl
  subst jp
  beta_reduce
  extract_lets
  exact ret_then hQ

end Parts

end Cert.KernelIdeal.Talk

end
-- ==== Proof.Whole.lean ====
/- The whole body on one device. -/
module

public import proofs.«01_k».proof.Proof.Head
public import proofs.«01_k».proof.Proof.SendB
public import proofs.«01_k».proof.Proof.Tail

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

section Whole

variable (pb : Dev nD → Vec F S256x512 .bf16) (K : GSem nD τ sig → ℕ) (c : Dev nD) (A : Vec F S512x512 .f32) (B : Vec F S1792x256 .f32)

/-- The cells' states and the rights that the body spends, apart from its arrays. -/
def spend : sProp 𝕄 :=
  iprop((cred (tallyAt (barCell c) () 7) ∗ atPos ER (barCell c) 0 ∅ 0) ∗ oth c (tokC (F := F) c) ∗ oth c (tokG (F := F) c)
    ∗ oth c (preW (F := F) 1 c) ∗ oth c (preW (F := F) 3 c)
    ∗ oth c (fun s => atPos ER (dcell 0 c s) 0 ∅ 0) ∗ oth c (fun s => atPos ER (dcell 2 c s) 0 ∅ 0))

/-- The cells' states after the body. -/
def spent : sProp 𝕄 :=
  iprop(atPos ER (barCell c) (0 + 1) ∅ 0 ∗ oth c (fun s => atPos ER (dcell 0 c s) (0 + 1) ∅ 0) ∗ oth c (fun s => atPos ER (dcell 1 c s) (0 + 1) ∅ 0)
    ∗ oth c (fun s => atPos ER (dcell 2 c s) (0 + 1) ∅ 0) ∗ oth c (fun s => atPos ER (dcell 3 c s) (0 + 1) ∅ 0))

attribute [local irreducible] Scalar.cmpi in
theorem run_tail (R : sProp 𝕄) (Q : PUnit → sProp 𝕄) (h0 h1 h2 h3 h4 h5) (hpb : pb c = pbOf A B)
    (f0 : Vec F S256x512 .bf16) (f1 f2 : Vec F S8x32x512 .bf16) (g : Vec F S2x128x512 .f32)
    (hQ : iprop(Ctx pb K c ∗ fam c (preI (F := F) c) (postI pb c) 8 ∗ Ow c 0
      ∗ (fam c (preW (F := F) 3 c) (postW pb 3 c) 8 ∗ slot2 (lf c) c c (rb2 pb) ∗ outUp pb c 8
        ∗ (rowsPt c c (pb c) ∗ r1Pt c (rb1 pb c) ∗ atPos ER (barCell c) (0 + 1) ∅ 0 ∗ oth c (fun s => atPos ER (dcell 1 c s) (0 + 1) ∅ 0)
          ∗ aPt c A ∗ bPt c B ∗ R))) ⊢ Q ⟨⟩) :
    iprop(Ctx pb K c ∗ fam c (preA (F := F) c) (done (F := F) c) 0 ∗ Ow c (oA c 0) ∗ aPt c A ∗ bPt c B ∗ oPt c g ∗ pPt c f0 ∗ slot1 c c f1 ∗ slot2 fullShare c c f2
        ∗ spend (F := F) c ∗ R)
      ⊢ wpB c (cc0_body (F := F) aM h0 bM h1 oM h2 pM h3 r1M h4 r2M h5 cc0_scratch3 cc0_scratch4 cc0_scratch5 cc0_scratch6) Q := by
  rw [cc0_body_eq_skeleton]
  unfold cc0_body_skel wpB
  rw [wp_bind]
  refine run1 pb K c A (iprop(bPt c B ∗ oPt c g ∗ pPt c f0 ∗ slot1 c c f1 ∗ slot2 fullShare c c f2 ∗ spend (F := F) c ∗ R)) _ h0 h1 h2 h3 h4 h5 ?_
  beta_reduce
  rw [wp_bind]
  refine BIBase.Entails.trans (Q := iprop(((Ctx pb K c ∗ Ow c (oC c 0)) ∗ oPt c g ∗ pPt c f0 ∗ slot1 c c f1 ∗ slot2 fullShare c c f2 ∗ spend (F := F) c ∗ R)
    ∗ aPt c A ∗ bPt c B)) (by iintro ⟨#H1, H2, H3, H4, H5⟩; iframe; iexact H1) ?_
  refine run2 c A B _ _ h0 h1 h2 h3 h4 h5 ?_
  beta_reduce
  rw [wp_bind]
  refine run3 c _ _ h0 h1 h2 h3 h4 h5 _ _ _ _ _ _ _ ?_
  beta_reduce
  rw [wp_bind]
  refine run4 c _ _ h0 h1 h2 h3 h4 h5 _ _ _ _ _ _ ?_
  beta_reduce
  rw [wp_bind]
  refine run5 c _ _ h0 h1 h2 h3 h4 h5 _ _ _ _ _ ?_
  beta_reduce
  rw [wp_bind]
  refine BIBase.Entails.trans ?_ (run6 pb K c f0 (iprop(aPt c A ∗ bPt c B ∗ oPt c g ∗ slot1 c c f1 ∗ slot2 fullShare c c f2 ∗ oth c (tokG (F := F) c)
    ∗ oth c (preW (F := F) 1 c) ∗ oth c (preW (F := F) 3 c)
    ∗ oth c (fun s => atPos ER (dcell 0 c s) 0 ∅ 0) ∗ oth c (fun s => atPos ER (dcell 2 c s) 0 ∅ 0) ∗ R)) _ h0 h1 h2 h3 h4 h5 _ _ _ _ _ _ hpb ?_)
  · unfold spend
    iintro ⟨H1, H2, ⟨#H3, H4⟩, H5, H6, H7, H8, ⟨H9, H10, H11, H12, H13, H14, H15⟩, H16⟩
    isplitr; · iexact H3
    isplitl [H9]; · iexact H9
    isplitl [H4]; · iexact H4
    iframe
  beta_reduce
  rw [wp_bind]
  refine BIBase.Entails.trans ?_ (run7 pb K c f1 (iprop(atPos ER (barCell c) (0 + 1) ∅ 0 ∗ oth c (land3 (F := F) c) ∗ aPt c A ∗ bPt c B ∗ oPt c g
    ∗ slot2 fullShare c c f2 ∗ oth c (tokG (F := F) c) ∗ oth c (preW (F := F) 3 c)
    ∗ oth c (fun s => atPos ER (dcell 0 c s) 0 ∅ 0) ∗ oth c (fun s => atPos ER (dcell 2 c s) 0 ∅ 0) ∗ R)) _ h0 h1 h2 h3 h4 h5 ?_ _)
  · iintro ⟨#H1, H2, H3, H4, H5, H6, H7, H8, H9, H10, H11, H12, H13, H14, H15, H16, H17⟩
    isplitr; · iexact H1
    isplitl [H2]; · iexact H2
    isplitl [H3]; · iexact H3
    iframe
  beta_reduce
  rw [wp_bind]
  refine run8 pb K c (iprop(oth c (postC (F := F) c) ∗ rowsPt c c (pb c) ∗ atPos ER (barCell c) (0 + 1) ∅ 0 ∗ oth c (land3 (F := F) c) ∗ aPt c A ∗ bPt c B ∗ oPt c g
    ∗ slot2 fullShare c c f2 ∗ oth c (tokG (F := F) c) ∗ oth c (preW (F := F) 3 c)
    ∗ oth c (fun s => atPos ER (dcell 0 c s) 0 ∅ 0) ∗ oth c (fun s => atPos ER (dcell 2 c s) 0 ∅ 0) ∗ R)) _ h0 h1 h2 h3 h4 h5 ?_
  beta_reduce
  rw [wp_bind]
  refine BIBase.Entails.trans ?_ (run9 pb K c f2 g (iprop(oth c (postC (F := F) c) ∗ oth c (fun s => atPos ER (dcell 0 c s) 0 ∅ 0) ∗ oth c (fun s => atPos ER (dcell 2 c s) 0 ∅ 0)
    ∗ rowsPt c c (pb c) ∗ r1Pt c (rb1 pb c) ∗ atPos ER (barCell c) (0 + 1) ∅ 0 ∗ oth c (fun s => atPos ER (dcell 1 c s) (0 + 1) ∅ 0)
    ∗ aPt c A ∗ bPt c B ∗ R)) _ h0 h1 h2 h3 h4 h5 ?_ _ rfl)
  · iintro ⟨⟨#H1, H2⟩, H3, H4, H5, H6, H7, H8, H9, H10, H11, H12, H13, H14, H15, H16, H17⟩
    isplitl [H2]
    · isplitr; · iexact H1
      iexact H2
    iframe
  beta_reduce
  rw [wp_bind]
  refine run10 pb K c _ _ h0 h1 h2 h3 h4 h5 ?_
  beta_reduce
  rw [wp_bind]
  refine run11 pb K c _ _ h0 h1 h2 h3 h4 h5 ?_
  beta_reduce
  rw [wp_bind]
  refine BIBase.Entails.trans ?_ (run12 pb K c (iprop(rowsPt c c (pb c) ∗ r1Pt c (rb1 pb c) ∗ atPos ER (barCell c) (0 + 1) ∅ 0
    ∗ oth c (fun s => atPos ER (dcell 1 c s) (0 + 1) ∅ 0) ∗ aPt c A ∗ bPt c B ∗ R)) _ h0 h1 h2 h3 h4 h5 ?_)
  · iintro ⟨#H1, H2, H3, H4, H5, H6, H7, H8, H9, H10⟩
    isplitr; · iexact H1
    isplitl [H2]; · iexact H2
    isplitl [H3]; · iexact H3
    iframe
  dsimp -zeta only
  extract_lets -underBinder _ jp
  refine guardI pb K c (5 : Dev nD) (wcond c 5) ?_ ?_ ?_ ?_ ?_
  · exact sem_0 5 _ rfl
  · rfl
  · exact sem_2 5 _ rfl
  · rfl
  subst jp
  beta_reduce
  extract_lets -underBinder _ _ _ jp
  refine guardI pb K c (6 : Dev nD) (wcond c 6) ?_ ?_ ?_ ?_ ?_
  · exact sem_0 6 _ rfl
  · rfl
  · exact sem_2 6 _ rfl
  · rfl
  subst jp
  beta_reduce
  extract_lets -underBinder _ _ _ jp
  refine guardI pb K c (7 : Dev nD) (wcond c 7) ?_ ?_ ?_ ?_ ?_
  · exact sem_0 7 _ rfl
  · rfl
  · exact sem_2 7 _ rfl
  · rfl
  subst jp
  beta_reduce
  exact ret_then hQ

theorem run_body (Q : PUnit → sProp 𝕄) (h0 h1 h2 h3 h4 h5) (hpb : pb c = pbOf A B)
    (hQ : iprop(Ctx pb K c ∗ Ow c 0 ∗ aPt c A ∗ bPt c B ∗ oPt c (outOf pb) ∗ pPt c (pb c) ∗ r1Pt c (rb1 pb c) ∗ r2Pt c (rb2 pb) ∗ spent (F := F) c) ⊢ Q ⟨⟩) :
    iprop(Ctx pb K c ∗ Ow c (O₀ c) ∗ aPt c A ∗ bPt c B ∗ (∃ g, oPt c g) ∗ (∃ f, pPt c f) ∗ (∃ f, r1Pt c f) ∗ (∃ f, r2Pt c f) ∗ oth c (tokA (F := F) c) ∗ spend (F := F) c)
      ⊢ wpB c (cc0_body (F := F) aM h0 bM h1 oM h2 pM h3 r1M h4 r2M h5 cc0_scratch3 cc0_scratch4 cc0_scratch5 cc0_scratch6) Q := by
  iintro ⟨#H1, H2, H3, H4, ⟨%g, H5⟩, ⟨%f0, H6⟩, H7, H8, H9, H10⟩
  ihave H := (join_A (F := F) c) $$ [H7 H8 H9]
  · iframe
  icases H with ⟨H7, H8, H9⟩
  unfold any1 any2
  icases H8 with ⟨%f1, H8⟩
  icases H9 with ⟨%f2, H9⟩
  iapply (run_tail pb K c A B (iprop(emp)) Q h0 h1 h2 h3 h4 h5 hpb f0 f1 f2 g (BIBase.Entails.trans ?_ hQ))
  · iintro ⟨#H1, H2, H3, H4, H5, H6, H7, H8, H9, H10, H11, H12, -⟩
    ihave H := (join_Z pb c) $$ [H2 H4 H5 H7]
    · iframe
    ihave H13 := (outUp_done pb c) $$ H6
    icases H with ⟨H14, H15, H16, H17, H18⟩
    unfold spent
    isplitr; · iexact H1
    iframe
  · rw [oA_zero]
    isplitr; · iexact H1
    isplitl [H7]; · iexact H7
    isplitl [H2]; · iexact H2
    iframe

end Whole

end Cert.KernelIdeal.Talk

end
-- ==== Proof.Region.lean ====
/- The region that runs the body: what enters it, what it leaves, and its cells opened and closed. -/
module

public import proofs.«01_k».proof.Proof.Whole
public import proofs.«01_k».proof.Proof.Gen.KernelIdeal.Frame
public import Idealize.ShloMosaic.Harness.Basic

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

section Region

variable (m : (ℓ : Loc nD τ sig) → Buf (Elt F) ℓ)

/-- A device's operand arrays when the region is entered. -/
abbrev aIn (c : Dev nD) : Vec F S512x512 .f32 := V m c main_v26
abbrev bIn (c : Dev nD) : Vec F S1792x256 .f32 := V m c main_v27
/-- Every device's partial product. -/
def pbs (c : Dev nD) : Vec F S256x512 .bf16 := pbOf (aIn m c) (bIn m c)

/-- The region's own counters: a device's cells of each kind. -/
abbrev osem (x : Fin 4 × Dev nD) : SemLoc sig := .dma (dsem x.1 x.2)

/-- Every cell's invariant; every barrier cell open. -/
def records (K : GSem nD τ sig → ℕ) : sProp 𝕄 :=
  iprop((bigSep Finset.univ fun x => cellInv ER (talkRd (pbs m)) (K (cellEmb x)) (cellEmb x))
    ∗ (bigSep Finset.univ fun d : Dev nD => reached ER (barCell d) 0))

instance records_persistent (K : GSem nD τ sig → ℕ) : BI.Persistent (records m K) := by unfold records; infer_instance

/-- The credit that the launch gives a device. -/
def creds (c : Dev nD) : sProp 𝕄 :=
  iprop(cred (tallyAt (barCell c) () 7) ∗ oth c (fun s => cred (tallyAt (dcell 1 c s) () N)) ∗ oth c (fun s => cred (tallyAt (dcell 3 c s) () N)))
/-- The tokens of the duties that a device pays. -/
def toks (c : Dev nD) : sProp 𝕄 := iprop(oth c (tokA (F := F) c) ∗ oth c (tokC (F := F) c) ∗ oth c (tokG (F := F) c))
/-- A device's own rights at launch. -/
def linear (c : Dev nD) : sProp 𝕄 :=
  iprop(atPos ER (barCell c) 0 ∅ 0 ∗ (bigSep Finset.univ fun x : Fin 4 × Dev nD => openTok ER (dcell x.1 c x.2)) ∗ toks (F := F) c)
def Tk (c : Dev nD) : sProp 𝕄 := iprop((∃ K, records m K ∗ linear (F := F) c) ∗ creds (F := F) c)
/-- What the body has of the conversation once its own cells are open. -/
def Xk (c : Dev nD) : sProp 𝕄 :=
  iprop((∃ K, Ctx (pbs m) K c) ∗ atPos ER (barCell c) 0 ∅ 0 ∗ (bigSep Finset.univ fun x : Fin 4 × Dev nD => atPos ER (dcell x.1 c x.2) 0 ∅ 0)
    ∗ toks (F := F) c ∗ creds (F := F) c)
def Yk (c : Dev nD) : sProp 𝕄 := semVal (barCell c) 0

theorem ownSems_eq (c : Dev nD) : (Pipeline.ownSems0 osem c : sProp 𝕄) = bigSep Finset.univ fun x : Fin 4 × Dev nD => semVal (dcell x.1 c x.2) 0 := rfl

theorem records_inv (K : GSem nD τ sig → ℕ) (x : Dev nD ⊕ (Dev nD × Fin 4 × Dev nD)) :
    records m K ⊢ (cellInv ER (talkRd (pbs m)) (K (cellEmb x)) (cellEmb x) : sProp 𝕄) := by
  unfold records
  iintro ⟨HI, -⟩
  iapply (show (bigSep Finset.univ fun x => cellInv ER (talkRd (pbs m)) (K (cellEmb x)) (cellEmb x))
    ⊢ (cellInv ER (talkRd (pbs m)) (K (cellEmb x)) (cellEmb x) : sProp 𝕄) from bigSep_elim (Finset.mem_univ x)) $$ HI

theorem open_cell (K : GSem nD τ sig → ℕ) (c : Dev nD) (x : Fin 4 × Dev nD) :
    iprop(records m K ∗ (openTok ER (dcell x.1 c x.2) ∗ semVal (dcell x.1 c x.2) 0))
      ⊢ (|={Set.univ}=> (atPos ER (dcell x.1 c x.2) 0 ∅ 0 ∗ reached ER (dcell x.1 c x.2) 0) : sProp 𝕄) := by
  iintro ⟨HR, Ho, Hs⟩
  ihave HI := (records_inv m K (.inr (c, x))) $$ HR
  iapply (Rounds.cell_open ER (talkRd (pbs m)) (g := dcell x.1 c x.2) (Set.mem_univ (K (dcell x.1 c x.2))))
  isplitl [HI]; · iexact HI
  isplitl [Ho] <;> iassumption

theorem open_cells (c : Dev nD) : iprop(Tk m c ∗ Pipeline.ownSems0 osem c ∗ levAts L lv) ⊢ (|={Set.univ}=> Xk m c : sProp 𝕄) := by
  rw [ownSems_eq]
  unfold Tk Xk linear
  iintro ⟨⟨⟨%K, #HR, Hb, Ho, Ht⟩, Hc⟩, Hs, #Hlev⟩
  ihave H := (bigSep_pair (Φ := fun x : Fin 4 × Dev nD => openTok ER (dcell x.1 c x.2))
    (Ψ := fun x => (semVal (dcell x.1 c x.2) 0 : sProp 𝕄))) $$ [Ho Hs]
  · isplitl [Ho] <;> iassumption
  ihave H := (bigSep_with_persistent (R := records m K) fun x _ => open_cell m K c x) $$ [H]
  · isplitr; · iexact HR
    iexact H
  imod (bigSep_fupd _ _) $$ H with H
  ihave H := bigSep_unpair $$ H
  icases H with ⟨Ha, #Hr⟩
  imodintro
  isplitr
  · iexists K; unfold Ctx records
    icases HR with ⟨#HI, #HB⟩
    isplitr; · iexact HI
    isplitr; · iexact HB
    isplitr; · iexact Hr
    iexact Hlev
  isplitl [Hb]; · iexact Hb
  isplitl [Ha]; · iexact Ha
  isplitl [Ht] <;> iassumption

theorem close_cell (K : GSem nD τ sig → ℕ) (c : Dev nD) (k : Fin 4) (j : Dev nD) :
    iprop(Ctx (pbs m) K c ∗ atPos ER (dcell k c j) (0 + 1) ∅ 0) ⊢ (|={Set.univ}=> semVal (dcell k c j) 0 : sProp 𝕄) := by
  iintro ⟨HR, Ho⟩
  ihave HI := (ctx_dma (pbs m) K c k c j) $$ HR
  iapply (Rounds.cell_close ER (talkRd (pbs m)) (g := dcell k c j) (Set.mem_univ (K (dcell k c j))) id (duties_later (pbs m) _))
  isplitl [HI] <;> iassumption

theorem close_own (K : GSem nD τ sig → ℕ) (c : Dev nD) (k : Fin 4) :
    iprop(Ctx (pbs m) K c ∗ atPos ER (dcell k c c) 0 ∅ 0) ⊢ (|={Set.univ}=> semVal (dcell k c c) 0 : sProp 𝕄) := by
  iintro ⟨HR, Ho⟩
  ihave HI := (ctx_dma (pbs m) K c k c c) $$ HR
  iapply (Rounds.cell_close ER (talkRd (pbs m)) (g := dcell k c c) (Set.mem_univ (K (dcell k c c))) id
    (duties_none (pbs m) _ (duties_own (pbs m) c k)))
  isplitl [HI] <;> iassumption

theorem close_bar (K : GSem nD τ sig → ℕ) (c : Dev nD) :
    iprop(Ctx (pbs m) K c ∗ atPos ER (barCell c) (0 + 1) ∅ 0) ⊢ (|={Set.univ}=> semVal (barCell c) 0 : sProp 𝕄) := by
  iintro ⟨HR, Ho⟩
  ihave HI := (ctx_bar (pbs m) K c c) $$ HR
  iapply (Rounds.cell_close ER (talkRd (pbs m)) (g := barCell c) (Set.mem_univ (K (barCell c))) id (duties_later (pbs m) _))
  isplitl [HI] <;> iassumption

/-- One kind's cells of a device closed: its own index never used, the others after their one round. -/
theorem close_kind (K : GSem nD τ sig → ℕ) (c : Dev nD) (k : Fin 4) :
    iprop(Ctx (pbs m) K c ∗ atPos ER (dcell k c c) 0 ∅ 0 ∗ oth c (fun s => atPos ER (dcell k c s) (0 + 1) ∅ 0))
      ⊢ (|={Set.univ}=> bigSep Finset.univ (fun s : Dev nD => semVal (dcell k c s) 0) : sProp 𝕄) := by
  rw [univ_split c (fun s : Dev nD => (semVal (dcell k c s) 0 : sProp 𝕄))]
  iintro ⟨#HR, Ha, Ho⟩
  imod (close_own m K c k) $$ [Ha] with Ha
  · isplitr; · iexact HR
    iexact Ha
  ihave Ho := (bigSep_with_persistent (R := Ctx (pbs m) K c) fun s (_ : s ∈ Finset.univ.erase c) => close_cell m K c k s) $$ [Ho]
  · isplitr; · iexact HR
    iexact Ho
  imod (bigSep_fupd _ _) $$ Ho with Ho
  imodintro
  isplitl [Ha] <;> iassumption

theorem by_kind (Φ : Fin 4 × Dev nD → sProp 𝕄) : bigSep Finset.univ Φ = iprop((bigSep Finset.univ fun j => Φ (0, j)) ∗ (bigSep Finset.univ fun j => Φ (1, j))
    ∗ (bigSep Finset.univ fun j => Φ (2, j)) ∗ (bigSep Finset.univ fun j => Φ (3, j))) := by
  rw [bigSep_univ_prod, show (Finset.univ : Finset (Fin 4)) = {0, 1, 2, 3} from by decide, bigSep_insert (by decide), bigSep_insert (by decide),
    bigSep_insert (by decide), bigSep_singleton]
  rfl

theorem close_all (K : GSem nD τ sig → ℕ) (c : Dev nD) :
    iprop(Ctx (pbs m) K c ∗ spent (F := F) c ∗ (atPos ER (dcell 0 c c) 0 ∅ 0 ∗ atPos ER (dcell 1 c c) 0 ∅ 0 ∗ atPos ER (dcell 2 c c) 0 ∅ 0
        ∗ atPos ER (dcell 3 c c) 0 ∅ 0))
      ⊢ (|={Set.univ}=> (Yk c ∗ Pipeline.ownSems0 osem c) : sProp 𝕄) := by
  rw [ownSems_eq, by_kind]
  unfold spent Yk
  iintro ⟨#HR, ⟨Hb, H0, H1, H2, H3⟩, G0, G1, G2, G3⟩
  imod (close_bar m K c) $$ [Hb] with Hb
  · isplitr; · iexact HR
    iexact Hb
  imod (close_kind m K c 0) $$ [H0 G0] with H0
  · isplitr; · iexact HR
    isplitl [G0] <;> iassumption
  imod (close_kind m K c 1) $$ [H1 G1] with H1
  · isplitr; · iexact HR
    isplitl [G1] <;> iassumption
  imod (close_kind m K c 2) $$ [H2 G2] with H2
  · isplitr; · iexact HR
    isplitl [G2] <;> iassumption
  imod (close_kind m K c 3) $$ [H3 G3] with H3
  · isplitr; · iexact HR
    isplitl [G3] <;> iassumption
  imodintro
  isplitl [Hb]; · iexact Hb
  isplitl [H0]; · iexact H0
  isplitl [H1]; · iexact H1
  isplitl [H2] <;> iassumption

/-- The scratch buffers at contents not chosen. -/
def scratch (c : Dev nD) : sProp 𝕄 := iprop((∃ f, pPt (F := F) c f) ∗ (∃ f, r1Pt (F := F) c f) ∗ (∃ f, r2Pt (F := F) c f))

/-- What the body leaves beside the closed cells. -/
def left (c : Dev nD) : sProp 𝕄 :=
  iprop(Ow c 0 ∗ aPt c (aIn m c) ∗ bPt c (bIn m c) ∗ oPt c (outOf (pbs m)) ∗ scratch (F := F) c)

theorem run_region (c : Dev nD) (h0 h1 h2 h3 h4 h5) :
    iprop(Xk m c ∗ Ow c (O₀ c) ∗ aPt c (aIn m c) ∗ bPt c (bIn m c) ∗ (∃ g, oPt (F := F) c g) ∗ scratch (F := F) c)
      ⊢ wpB c (cc0_body (F := F) aM h0 bM h1 oM h2 pM h3 r1M h4 r2M h5 cc0_scratch3 cc0_scratch4 cc0_scratch5 cc0_scratch6)
          (fun _ => iprop((Yk c ∗ Pipeline.ownSems0 osem c) ∗ left m c)) := by
  unfold Xk
  iintro ⟨⟨⟨%K, #HC⟩, Hb, Ha, Ht, Hcr⟩, HO, HA, HB, Hg, Hs⟩
  iapply (wp_fupd _ _ _ _ _)
  unfold toks creds scratch
  icases Ht with ⟨HtA, HtC, HtG⟩
  icases Hcr with ⟨Hc7, Hc1, Hc3⟩
  icases Hs with ⟨Hp, Hr1, Hr2⟩
  ihave Ha := (Entails.of_eq (by_kind (fun x : Fin 4 × Dev nD => (atPos ER (dcell x.1 c x.2) 0 ∅ 0 : sProp 𝕄)))) $$ Ha
  icases Ha with ⟨G0, G1, G2, G3⟩
  ihave G0 := (Entails.of_eq (univ_split c (fun s : Dev nD => (atPos ER (dcell 0 c s) 0 ∅ 0 : sProp 𝕄)))) $$ G0
  ihave G1 := (Entails.of_eq (univ_split c (fun s : Dev nD => (atPos ER (dcell 1 c s) 0 ∅ 0 : sProp 𝕄)))) $$ G1
  ihave G2 := (Entails.of_eq (univ_split c (fun s : Dev nD => (atPos ER (dcell 2 c s) 0 ∅ 0 : sProp 𝕄)))) $$ G2
  ihave G3 := (Entails.of_eq (univ_split c (fun s : Dev nD => (atPos ER (dcell 3 c s) 0 ∅ 0 : sProp 𝕄)))) $$ G3
  icases G0 with ⟨E0, G0⟩
  icases G1 with ⟨E1, G1⟩
  icases G2 with ⟨E2, G2⟩
  icases G3 with ⟨E3, G3⟩
  ihave W1 := (oth_two c (Ψ := preW (F := F) 1 c) (fun d => BIBase.Entails.rfl)) $$ [Hc1 G1]
  · isplitl [Hc1] <;> iassumption
  ihave W3 := (oth_two c (Ψ := preW (F := F) 3 c) (fun d => BIBase.Entails.rfl)) $$ [Hc3 G3]
  · isplitl [Hc3] <;> iassumption
  iapply (wp_mono _ _ _ (Q := fun _ => iprop((Ctx (pbs m) K c ∗ spent (F := F) c ∗ left m c)
    ∗ (atPos ER (dcell 0 c c) 0 ∅ 0 ∗ atPos ER (dcell 1 c c) 0 ∅ 0 ∗ atPos ER (dcell 2 c c) 0 ∅ 0 ∗ atPos ER (dcell 3 c c) 0 ∅ 0))) (fun _ => ?_))
  · iintro ⟨⟨HC, Hsp, Hl⟩, HE⟩
    imod (close_all m K c) $$ [HC Hsp HE] with H
    · isplitl [HC]; · iexact HC
      isplitl [Hsp] <;> iassumption
    imodintro
    isplitl [H] <;> iassumption
  iapply (wpB_frame (run_body (pbs m) K c (aIn m c) (bIn m c) (fun _ => iprop(Ctx (pbs m) K c ∗ spent (F := F) c ∗ left m c)) h0 h1 h2 h3 h4 h5 rfl ?_))
  · unfold left scratch
    iintro ⟨H1, H2, H3, H4, H5, H6, H7, H8, H9⟩
    isplitl [H1]; · iexact H1
    isplitl [H9]; · iexact H9
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  isplitr [E0 E1 E2 E3]
  · unfold spend
    isplitr; · iexact HC
    isplitl [HO]; · iexact HO
    isplitl [HA]; · iexact HA
    isplitl [HB]; · iexact HB
    isplitl [Hg]; · iexact Hg
    isplitl [Hp]; · iexact Hp
    isplitl [Hr1]; · iexact Hr1
    isplitl [Hr2]; · iexact Hr2
    isplitl [HtA]; · iexact HtA
    isplitl [Hc7 Hb]; · isplitl [Hc7] <;> iassumption
    isplitl [HtC]; · iexact HtC
    isplitl [HtG]; · iexact HtG
    isplitl [W1]; · iexact W1
    isplitl [W3]; · iexact W3
    isplitl [G0] <;> iassumption
  isplitl [E0]; · iexact E0
  isplitl [E1]; · iexact E1
  isplitl [E2] <;> iassumption

end Region

end Cert.KernelIdeal.Talk

end
-- ==== Proof.Segment.lean ====
/- The region as a segment of the program: its proof data and its body obligation. -/
module

public import proofs.«01_k».proof.Proof.Region
public import Idealize.ShloMosaic.Lib.Pipeline.Value

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

section Segment

variable (m : (ℓ : Loc nD τ sig) → Buf (Elt F) ℓ)

/-- The region owes the conversation's duties before its one point and nothing after. -/
def dat (c : Dev nD) : Dat τ (Elt F) Unit ℕ UU ℕ cfg0 c where
  A w := V m c (Pipeline.arrRef spec0 w)
  after := fun
    | 0 => fun _ => aIn m c
    | 1 => fun _ => bIn m c
    | 2 => fun _ => outOf (pbs m)
    | ⟨_ + 3, h⟩ => absurd h (Nat.not_lt.2 (Nat.le_add_left _ _))
  Φ t := if t.val = 0 then iprop(Xk m c ∗ scratch (F := F) c ∗ ∃ r, prngReg c r)
    else iprop((Yk c ∗ Pipeline.ownSems0 osem c) ∗ scratch (F := F) c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

theorem owed_zero (c : Dev nD) : (pdats m 0 c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

/-- Each window's block is its whole array. -/
theorem emb0 (t : Fin cfg0.N) (i : S512x512.Idx) : ((cfg0.win 0).blk t).view.emb i = i := by
  funext a; apply Fin.ext
  exact Pipeline.Window.rect_emb_val_of_index_zero (cfg0.win 0) t a rfl i
theorem emb1 (t : Fin cfg0.N) (i : S1792x256.Idx) : ((cfg0.win 1).blk t).view.emb i = i := by
  funext a; apply Fin.ext
  exact Pipeline.Window.rect_emb_val_of_index_zero (cfg0.win 1) t a rfl i
theorem emb2 (t : Fin cfg0.N) (i : S2x128x512.Idx) : ((cfg0.win 2).blk t).view.emb i = i := by
  funext a; apply Fin.ext
  exact Pipeline.Window.rect_emb_val_of_index_zero (cfg0.win 2) t a rfl i

theorem before0 (c : Dev nD) (t : Fin cfg0.N) (d) : (dat m c).before 0 t d = aIn m c :=
  ((dat m c).before_in_eq_fetched 0 rfl (fun _ => rfl) (fun _ _ _ => rfl)
    (fun t => by unfold Dat.blockOf; funext i; rw [View.read_apply]; exact (congrArg (aIn m c) (emb0 t i)).symm) t d).trans (by
    unfold Dat.fetched Dat.blockOf; funext i
    exact congrArg (aIn m c) (emb0 t i))
theorem before1 (c : Dev nD) (t : Fin cfg0.N) (d) : (dat m c).before 1 t d = bIn m c :=
  ((dat m c).before_in_eq_fetched 1 rfl (fun _ => rfl) (fun _ _ _ => rfl)
    (fun t => by unfold Dat.blockOf; funext i; rw [View.read_apply]; exact (congrArg (bIn m c) (emb1 t i)).symm) t d).trans (by
    unfold Dat.fetched Dat.blockOf; funext i
    exact congrArg (bIn m c) (emb1 t i))

theorem arr0 (c : Dev nD) : (dat m c).arrAt 0 cfg0.N = aIn m c := (dat m c).arrAt_in 0 rfl _
theorem arr1 (c : Dev nD) : (dat m c).arrAt 1 cfg0.N = bIn m c := (dat m c).arrAt_in 1 rfl _
theorem arr2 (c : Dev nD) : (dat m c).arrAt 2 cfg0.N = outOf (pbs m) := by
  refine (dat m c).arrAt_eq_of_cover 2 (outOf (pbs m)) (fun t _ => ?_) (fun i => ⟨t0_0, by decide, ?_⟩)
  · funext i; exact (congrArg (outOf (pbs m)) (emb2 t i)).symm
  · have h : ((cfg0.win 2).blk t0_0).view.emb i = i := emb2 t0_0 i
    rw [← h]; exact View.emb_mem_set _ _

end Segment

end Cert.KernelIdeal.Talk

end
-- ==== Proof.Talking.lean ====
/- The region as a segment of the program. -/
module

public import proofs.«01_k».proof.Proof.Segment

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

section Talking

variable (m : (ℓ : Loc nD τ sig) → Buf (Elt F) ℓ)

theorem owes_in (c : Dev nD) (t : Fin (cfg0.N + 1)) {O : CellTallies nD τ sig Unit} (h : (dat m c).owed t = O) :
    ((dat m c).owesAt () t : sProp 𝕄) ⊢ Ow c O := by
  subst h
  unfold Dat.owesAt Pipeline.owesWithin
  iintro ⟨%W, -, H⟩; iexists W; iexact H

theorem owes_out (c : Dev nD) (t : Fin (cfg0.N + 1)) {O : CellTallies nD τ sig Unit} (h : (dat m c).owed t = O) :
    Ow c O ⊢ ((dat m c).owesAt () t : sProp 𝕄) := by
  subst h
  unfold Dat.owesAt Pipeline.owesWithin Dat.bound
  iintro ⟨%W, H⟩; iexists W
  isplitr; · ipureintro; exact fun _ _ => Or.inl trivial
  iexact H

theorem body_ok (c : Dev nD) : BodyObligation (dat m c) defs₀ 𝒱₀ () Set.univ := fun t => by
  obtain rfl := fin_N0 t
  rw [bigSep_W0, bigSep_W0]
  rw [show (dat m c).Φ t0_0.castSucc = iprop(Xk m c ∗ scratch (F := F) c ∗ ∃ r, prngReg c r) from rfl,
    show (dat m c).Φ t0_0.succ = iprop((Yk c ∗ Pipeline.ownSems0 osem c) ∗ scratch (F := F) c ∗ ∃ r, prngReg c r) from rfl]
  iintro ⟨⟨HX, Hs, Hreg⟩, HO, ⟨%d0, H0⟩, ⟨%d1, H1⟩, ⟨%d2, H2⟩⟩
  ihave HO := (owes_in m c _ (owed_first m c)) $$ HO
  ihave H0 := (show owns c (Memref.whole cc0_stg0_0) fullShare ((dat m c).before 0 t0_0 d0) ⊢ (aPt c (aIn m c) : sProp 𝕄) from by
    rw [before0, owns_whole]) $$ H0
  ihave H1 := (show owns c (Memref.whole cc0_stg1_0) fullShare ((dat m c).before 1 t0_0 d1) ⊢ (bPt c (bIn m c) : sProp 𝕄) from by
    rw [before1, owns_whole]) $$ H1
  ihave H2 := (show owns c (Memref.whole cc0_stg2_0) fullShare ((dat m c).before 2 t0_0 d2) ⊢ (iprop(∃ g, oPt (F := F) c g) : sProp 𝕄) from by
    rw [owns_whole]; iintro H; iexists _; iexact H) $$ H2
  iapply (BIBase.Entails.trans (wpB_frame (R := iprop(∃ r, prngReg c r)) (run_region m c (hstage0_0 0) (hstage0_1 0) (hstage0_2 0) (Memref.isWhole_whole _)
    (Memref.isWhole_whole _) (Memref.isWhole_whole _))) (wp_mono _ _ _ fun _ => ?_))
  · unfold left
    iintro ⟨⟨HY, HO, HA, HB, Hg, Hs⟩, Hreg⟩
    isplitl [HY Hs Hreg]
    · isplitl [HY]; · iexact HY
      isplitl [Hs] <;> iassumption
    isplitl [HO]; · iapply (owes_out m c t0_0.succ (owed_last m c)) $$ HO
    isplitl [HA]; · iapply (show (aPt c (aIn m c) : sProp 𝕄) ⊢ owns c (Memref.whole cc0_stg0_0) fullShare (aIn m c) from by rw [owns_whole]) $$ HA
    isplitl [HB]; · iapply (show (bPt c (bIn m c) : sProp 𝕄) ⊢ owns c (Memref.whole cc0_stg1_0) fullShare (bIn m c) from by rw [owns_whole]) $$ HB
    iapply (show (oPt c (outOf (pbs m)) : sProp 𝕄) ⊢ owns c (Memref.whole cc0_stg2_0) fullShare (outOf (pbs m)) from by rw [owns_whole]) $$ Hg
  isplitr [Hreg]
  · isplitl [HX]; · iexact HX
    isplitl [HO]; · iexact HO
    isplitl [H0]; · iexact H0
    isplitl [H1]; · iexact H1
    isplitl [H2] <;> iassumption
  iexact Hreg

/-- A device's host buffers when the region is entered and when it is left. -/
abbrev V₁ (c : Dev nD) : Valuation τ sig (Elt F) := StableHlo.after hostOps0 (fun b => m (c, b))
def V₂ (c : Dev nD) : Valuation τ sig (Elt F) := Function.update (V₁ m c) (Proc.devRef .tc main_v28) (outOf (pbs m))
theorem V₂_out (c : Dev nD) : V₂ m c main_v28 = outOf (pbs m) := Function.update_self ..
theorem V₂_ne (c : Dev nD) {b : DevRef τ sig} (h : b ≠ Proc.devRef .tc main_v28) : V₂ m c b = V₁ m c b := Function.update_of_ne h ..

/-- The host's buffers that the region does not stage. -/
abbrev others : Finset (DevRef τ sig) := Pipeline.ucRefs τ sig \ Pipeline.arrRefs spec0

theorem out_mem : Proc.devRef .tc main_v28 ∈ Pipeline.arrRefs (τ := τ) spec0 := by
  unfold Pipeline.arrRefs
  exact Finset.mem_map_of_mem _ (Finset.mem_image_of_mem (Pipeline.arrRef spec0) (Finset.mem_univ (2 : Fin 3)))

theorem V₂_others (c : Dev nD) : ∀ b ∈ others, V₂ m c b = V₁ m c b := fun b hb =>
  V₂_ne m c fun h => (Finset.mem_sdiff.mp hb).2 (h ▸ out_mem)

theorem dues_level {c : Dev nD} {g : GSem nD τ sig} {u : Unit} (h : 0 < O₀ c g u) : u ∈ L g ∧ 0 < lv g u := by
  have key : (∃ j, g = barCell j) ∨ (∃ j, g = dcell 1 j c) ∨ (∃ j, g = dcell 3 j c) := by
    unfold O₀ at h
    simp only [Pi.add_apply, Finsupp.add_apply] at h
    rcases Nat.add_pos_iff_pos_or_pos.mp h with h | h
    · rcases Nat.add_pos_iff_pos_or_pos.mp h with h | h
      · obtain ⟨j, _, hj⟩ := dues_pos h; exact .inl ⟨j, tally_pos hj⟩
      · obtain ⟨j, _, hj⟩ := dues_pos h; exact .inr (.inl ⟨j, tally_pos hj⟩)
    · obtain ⟨j, _, hj⟩ := dues_pos h; exact .inr (.inr ⟨j, tally_pos hj⟩)
  rcases key with ⟨j, rfl⟩ | ⟨j, rfl⟩ | ⟨j, rfl⟩
  · exact ⟨by rw [L_tc]; exact Finset.mem_singleton_self _, Nat.one_pos⟩
  · refine ⟨by rw [L_tc]; exact Finset.mem_singleton_self _, ?_⟩
    rw [show lv (dcell 1 j c) u = _ from lv_dma 1 j c]; decide
  · refine ⟨by rw [L_tc]; exact Finset.mem_singleton_self _, ?_⟩
    rw [show lv (dcell 3 j c) u = _ from lv_dma 3 j c]; decide

theorem owed_level (c : Dev nD) (t : Fin (cfg0.N + 1)) (g : GSem nD τ sig) (u : Unit) (h : 0 < (dat m c).owed t g u) : u ∈ L g ∧ 0 < lv g u := by
  have e : (dat m c).owed t = if t.val = 0 then O₀ c else 0 := rfl
  rw [e] at h
  split at h
  · exact dues_level h
  · exact absurd h (Nat.lt_irrefl 0)

theorem own_facts : Pipeline.OwnSemFacts spec0 osem := by decide

theorem stage_lt : ∀ (w : Fin 3) (s : Fin (spec0 w).nbuf), ((spec0 w).sem s).val < 3 := by decide
theorem stage_level (c : Dev nD) (w : Fin 3) (s : Fin (spec0 w).nbuf) : lv ((c : Thread nD τ), .dma ((spec0 w).sem s)) () ≤ 0 := by
  show (if ((spec0 w).sem s).val < 3 then 0 else _) ≤ 0
  rw [if_pos (stage_lt w s)]

theorem enter (c : Dev nD) : iprop(Pipeline.scopedRest spec0 c ∗ (∃ r, prngReg c r) ∗ StableHlo.held (c.tc : Thread nD τ) ∅ (V₁ m c) ∗ Xk m c)
    ⊢ (dat m c).Φ 0 := by
  rw [show (dat m c).Φ 0 = iprop(Xk m c ∗ scratch (F := F) c ∗ ∃ r, prngReg c r) from rfl, scopedRest0_eq]
  unfold scratch
  iintro ⟨Hs, Hp, -, HX⟩
  isplitl [HX]; · iexact HX
  isplitl [Hs]; · iexact Hs
  iexact Hp

theorem leave (c : Dev nD) : (dat m c).Φ (Fin.last cfg0.N)
    ⊢ iprop(Pipeline.scopedRest spec0 c ∗ (∃ r, prngReg c r) ∗ StableHlo.held (c.tc : Thread nD τ) ∅ (V₂ m c) ∗ Pipeline.ownSems0 osem c ∗ Yk c) := by
  rw [show (dat m c).Φ (Fin.last cfg0.N) = iprop((Yk c ∗ Pipeline.ownSems0 osem c) ∗ scratch (F := F) c ∗ ∃ r, prngReg c r) from rfl, scopedRest0_eq]
  unfold scratch
  iintro ⟨⟨HY, HO⟩, Hs, Hp⟩
  isplitl [Hs]; · iexact Hs
  isplitl [Hp]; · iexact Hp
  isplitr; · unfold StableHlo.held; rw [bigSep_empty]; iempintro
  isplitl [HO] <;> iassumption

theorem arr_out (c : Dev nD) (w : Fin 3) : (dat m c).arrAt w cfg0.N = V₂ m c (Proc.devRef .tc (Pipeline.arrRef spec0 w)) := by
  fin_cases w
  · exact (arr0 m c).trans (V₂_ne m c (StableHlo.devRef_ne_of_ne (by decide))).symm
  · exact (arr1 m c).trans (V₂_ne m c (StableHlo.devRef_ne_of_ne (by decide))).symm
  · exact (arr2 m c).trans (V₂_out m c).symm

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) launch0.toP rfl (fun c => (body_ok m c).loose)
    (fun _ => 0) O₀ (fun c => (owed_zero m c).trans (zero_add _).symm) (owed_last m) (fun _ => rfl)
    (fun c w => by show (dat m c).share w = fullShare; unfold Dat.share; split <;> rfl)
    (V₁ m) (V₂ m) (fun c b hb => V₂_others m c b (Finset.mem_sdiff.mp hb).1)
    (Tk m) Yk (Xk m) Yk (open_cells m) (enter m) (leave m)
    (fun c => by iintro H; imodintro; iexact H)
    (fun _ => 0)
    ⟨fun c w s => by rw [L_tc]; exact Finset.mem_singleton_self _, stage_level, fun c t g i h => owed_level m c t g i h⟩
    (fun _ => iprop(emp))
    (fun c w => rfl) (arr_out m)

end Talking

end Cert.KernelIdeal.Talk

end
-- ==== Proof.Credit.lean ====
/- The launch: the cells, the tokens and the credit that the program starts with, dealt to the devices. -/
module

public import proofs.«01_k».proof.Proof.Talking

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

/-! ## The launch credit -/

theorem bar_inj {c d : Dev nD} (h : barCell c = barCell d) : c = d := congrArg (fun g : GSem nD τ sig => g.1.1) h
theorem dsem_inj : Function.Injective (fun x : Fin 4 × Dev nD => dsem x.1 x.2) := by decide
theorem dcell_inj {k k' : Fin 4} {c c' j j' : Dev nD} (h : dcell k c j = dcell k' c' j') : k = k' ∧ c = c' ∧ j = j' := by
  have h1 : c = c' := congrArg (fun g : GSem nD τ sig => g.1.1) h
  have h2 : dsem k j = dsem k' j' := SemLoc.dma.inj (congrArg (fun g : GSem nD τ sig => g.2) h)
  have h3 := dsem_inj (a₁ := (k, j)) (a₂ := (k', j')) h2
  exact ⟨congrArg Prod.fst h3, h1, congrArg Prod.snd h3⟩
theorem bar_ne {c j d : Dev nD} {k : Fin 4} : barCell c ≠ dcell k j d := fun h => by cases congrArg (fun g : GSem nD τ sig => g.2) h

theorem dues_apply (d : Dev nD) (T : Dev nD → CellTallies nD τ sig Unit) (g : GSem nD τ sig) :
    dues d T 0 g () = ∑ j ∈ Finset.univ.erase d, T j g () := by
  rw [dues_zero, Finset.sum_apply, Finsupp.finset_sum_apply]

theorem bar_at_bar (d c : Dev nD) : dues d (tBar d) 0 (barCell c) () = if c = d then 0 else 1 := by
  rw [dues_apply, Finset.sum_congr rfl (fun j _ => show tBar d j (barCell c) () = if c = j then 1 else 0 from by
    rw [tallyAt_apply]; exact if_congr ⟨fun h => bar_inj h.1, fun h => ⟨h ▸ rfl, rfl⟩⟩ rfl rfl), Finset.sum_ite_eq]
  by_cases h : c = d
  · rw [if_pos h, if_neg (by simp [h])]
  · rw [if_neg h, if_pos (by simp [h])]

theorem bar_at_dma (d c s : Dev nD) (k : Fin 4) : dues d (tBar d) 0 (dcell k c s) () = 0 := by
  rw [dues_apply]
  exact Finset.sum_eq_zero fun j _ => congrArg (fun f => f ()) (tallyAt_ne_cell (fun h => bar_ne h.symm) () _)

theorem dma_at_bar (d c : Dev nD) (k : Fin 4) : dues d (tDma k d) 0 (barCell c) () = 0 := by
  rw [dues_apply]
  exact Finset.sum_eq_zero fun j _ => congrArg (fun f => f ()) (tallyAt_ne_cell bar_ne () _)

theorem dma_at_other (d c s : Dev nD) {k k' : Fin 4} (h : k ≠ k') : dues d (tDma k d) 0 (dcell k' c s) () = 0 := by
  rw [dues_apply]
  exact Finset.sum_eq_zero fun j _ => congrArg (fun f => f ()) (tallyAt_ne_cell (fun e => h (dcell_inj e).1.symm) () _)

theorem dma_at_dma (d c s : Dev nD) (k : Fin 4) (hs : c ≠ s) : dues d (tDma k d) 0 (dcell k c s) () = if s = d then N else 0 := by
  rw [dues_apply]
  by_cases h : s = d
  · subst h
    rw [if_pos rfl, Finset.sum_congr rfl (fun j _ => show tDma k s j (dcell k c s) () = if c = j then N else 0 from by
      rw [tallyAt_apply]; exact if_congr ⟨fun h => (dcell_inj h.1).2.1, fun h => ⟨h ▸ rfl, rfl⟩⟩ rfl rfl), Finset.sum_ite_eq, if_pos (by simp [hs])]
  · rw [if_neg h]
    exact Finset.sum_eq_zero fun j _ => congrArg (fun f => f ()) (tallyAt_ne_cell (fun e => h (dcell_inj e).2.2) () _)

theorem owed_at (d : Dev nD) (g : GSem nD τ sig) : O₀ d g () = dues d (tBar d) 0 g () + dues d (tDma 1 d) 0 g () + dues d (tDma 3 d) 0 g () := by
  unfold O₀; simp only [Pi.add_apply, Finsupp.add_apply]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  rw [Finset.sum_congr rfl fun d _ => show O₀ d (barCell c) () = if c = d then 0 else 1 from by
    rw [owed_at, bar_at_bar, dma_at_bar, dma_at_bar]; rfl]
  revert c; decide

theorem launch_dma (c s : Dev nD) (hs : c ≠ s) (k : Fin 4) (hk : k = 1 ∨ k = 3) :
    tallyOn (dcell k c s) (launchCredit (Pipeline.owing O₀) 0 (dcell k c s)) = (tallyAt (dcell k c s) () N : CellTallies nD τ sig Unit) := by
  unfold tallyAt; refine congrArg _ (Finsupp.ext fun u => ?_); cases u
  rw [Pipeline.launchCredit_owing, Finsupp.single_eq_same]
  rw [Finset.sum_congr rfl fun d _ => show O₀ d (dcell k c s) () = if s = d then N else 0 from by
    rw [owed_at, bar_at_dma]
    rcases hk with rfl | rfl
    · rw [dma_at_dma d c s 1 hs, dma_at_other d c s (by decide), Nat.zero_add, Nat.add_zero]
    · rw [dma_at_dma d c s 3 hs, dma_at_other d c s (by decide), Nat.zero_add]]
  rw [Finset.sum_ite_eq, if_pos (Finset.mem_univ _)]

def osemEmb : Fin 4 × Dev nD ↪ SemLoc sig := ⟨osem, fun _ _ h => dsem_inj (SemLoc.dma.inj h)⟩

theorem creds_dma (c : Dev nD) (k : Fin 4) (hk : k = 1 ∨ k = 3) :
    iprop(bigSep (Finset.univ.erase c) fun s => cred (tallyOn (dcell k c s) (launchCredit (Pipeline.owing O₀) 0 (dcell k c s)))) ⊢
      (oth c (fun s => cred (tallyAt (dcell k c s) () N)) : sProp 𝕄) :=
  bigSep_mono fun s hs => Entails.of_eq (congrArg (fun t => (cred t : sProp 𝕄)) (launch_dma c s (Finset.ne_of_mem_erase hs).symm k hk))

theorem creds_intro (c : Dev nD) : (Pipeline.launchCred O₀ c : sProp 𝕄) ⊢ creds (F := F) c := by
  unfold Pipeline.launchCred creds
  rw [bigSep_univ_at _ (SemLoc.reg barS), launch_bar]
  refine sep_mono_right ?_
  refine BIBase.Entails.trans (bigSep_subset (t := Finset.univ.map osemEmb) (fun sm h => ?_)) ?_
  · obtain ⟨x, -, rfl⟩ := Finset.mem_map.mp h
    exact Finset.mem_erase.mpr ⟨(fun e => nomatch e), Finset.mem_univ (osemEmb x)⟩
  rw [bigSep_map, by_kind, univ_split c (fun j => cred (tallyOn ((c.tc : Thread nD τ), osemEmb (1, j)) _)),
    univ_split c (fun j => cred (tallyOn ((c.tc : Thread nD τ), osemEmb (3, j)) _))]
  iintro ⟨-, ⟨-, H1⟩, -, -, H3⟩
  isplitl [H1]
  · iapply (show (_ : sProp 𝕄) ⊢ _ from creds_dma c 1 (.inl rfl)) $$ [H1]; iexact H1
  · iapply (show (_ : sProp 𝕄) ⊢ _ from creds_dma c 3 (.inr rfl)) $$ [H3]; iexact H3

end Cert.KernelIdeal.Talk

end
-- ==== Proof.Launched.lean ====
/- The launch: the cells and the tokens dealt to the devices, and the run of the whole program on every device. -/
module

public import proofs.«01_k».proof.Proof.Credit

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

def barEmb : Dev nD ↪ GSem nD τ sig := ⟨fun c => barCell c, fun _ _ h => bar_inj h⟩
def scEmb : Dev nD × Fin 4 × Dev nD ↪ GSem nD τ sig :=
  ⟨fun x => dcell x.2.1 x.1 x.2.2, fun _ _ h => by obtain ⟨h1, h2, h3⟩ := dcell_inj h; exact Prod.ext h2 (Prod.ext h1 h3)⟩

abbrev barCells : Finset (GSem nD τ sig) := Finset.univ.map barEmb
abbrev scCells : Finset (GSem nD τ sig) := Finset.univ.map scEmb

/-- Every duty there could be: what device `c` owes the barrier of `j`, and the one duty of every DMA cell. -/
def tokOf : (Dev nD × Dev nD) ⊕ (Fin 4 × Dev nD × Dev nD) → GSem nD τ sig × ℕ × Dev nD
  | .inl x => (barCell x.2, 0, x.1)
  | .inr x => (dcell x.1 x.2.1 x.2.2, 0, 0)

theorem tokOf_inj : Function.Injective tokOf := by
  rintro (x | x) (y | y) h
  · have h1 := bar_inj (congrArg Prod.fst h)
    have h2 : x.1 = y.1 := congrArg (fun t : GSem nD τ sig × ℕ × Dev nD => t.2.2) h
    exact congrArg Sum.inl (Prod.ext h2 h1)
  · exact absurd (congrArg Prod.fst h) bar_ne
  · exact absurd (congrArg Prod.fst h).symm bar_ne
  · obtain ⟨h1, h2, h3⟩ := dcell_inj (congrArg Prod.fst h)
    exact congrArg Sum.inr (Prod.ext h1 (Prod.ext h2 h3))

def talkToks : Finset (GSem nD τ sig × ℕ × Dev nD) := Finset.univ.map ⟨tokOf, tokOf_inj⟩

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact bar_ne h.symm

theorem cell_mem : ∀ x, cellEmb x ∈ (barCells ∪ scCells : Finset (GSem nD τ sig))
  | .inl d => Finset.mem_union_left _ (Finset.mem_map_of_mem barEmb (Finset.mem_univ d))
  | .inr x => Finset.mem_union_right _ (Finset.mem_map_of_mem scEmb (Finset.mem_univ x))

/-- What the library hands out at the launch gives the records. -/
theorem records_intro (κ : GSem nD τ sig → ℕ) :
    iprop((bigSep (barCells ∪ scCells) fun g => cellInv ER (talkRd (pbs m)) (κ g) g) ∗ bigSep barCells fun g => reached ER g 0)
      ⊢ (records m κ : sProp 𝕄) := by
  unfold records
  iintro ⟨#H1, H2⟩
  isplitr
  · iapply (show (bigSep (barCells ∪ scCells) fun g => cellInv ER (talkRd (pbs m)) (κ g) g)
      ⊢ (bigSep Finset.univ fun x => cellInv ER (talkRd (pbs m)) (κ (cellEmb x)) (cellEmb x) : sProp 𝕄) from
      bigSep_intro_persistent fun x _ => bigSep_elim (cell_mem x)) $$ H1
  · iapply (show (bigSep barCells fun g => reached ER g 0) ⊢ (bigSep Finset.univ fun d => reached ER (barCell d) 0 : sProp 𝕄) from
      Entails.of_eq (bigSep_map (s := Finset.univ) barEmb (Φ := fun g : GSem nD τ sig => (reached ER g 0 : sProp 𝕄)))) $$ H2

/-- A token of a pair of devices, all pairs, dealt to the first of the pair with its own left out. -/
theorem deal (Φ : Dev nD → Dev nD → sProp 𝕄) :
    (bigSep Finset.univ fun c => bigSep Finset.univ fun j => Φ c j) ⊢ (bigSep Finset.univ fun c => oth c (Φ c)) :=
  bigSep_mono fun c _ => by
    rw [univ_split c (Φ c)]
    show iprop(Φ c c ∗ oth c (Φ c)) ⊢ oth c (Φ c)
    iintro ⟨-, H⟩
    iexact H

/-- The tokens of a kind of sent block and of the kind it lands by, dealt to the sender. -/
theorem deal_two (k k' : Fin 4) :
    iprop((bigSep Finset.univ fun x : Dev nD × Dev nD => dutyTok ER (dcell k x.1 x.2) 0 0)
        ∗ (bigSep Finset.univ fun x : Dev nD × Dev nD => dutyTok ER (dcell k' x.1 x.2) 0 0))
      ⊢ (bigSep Finset.univ fun c => oth c fun j => iprop(dutyTok ER (dcell k c j) 0 0 ∗ dutyTok ER (dcell k' j c) 0 0) : sProp 𝕄) := by
  rw [bigSep_univ_prod, bigSep_univ_prod, bigSep_univ_comm (fun a b : Dev nD => (dutyTok ER (dcell k' a b) 0 0 : sProp 𝕄))]
  iintro ⟨H1, H2⟩
  ihave H3 := (deal (F := F) fun c j => dutyTok ER (dcell k c j) 0 0) $$ [H1]
  · iexact H1
  ihave H4 := (deal (F := F) fun c j => dutyTok ER (dcell k' j c) 0 0) $$ [H2]
  · iexact H2
  ihave H5 := bigSep_pair $$ [H3 H4]
  · isplitl [H3]
    · iexact H3
    · iexact H4
  iapply (show (bigSep Finset.univ fun c : Dev nD => iprop((oth c fun j => dutyTok ER (dcell k c j) 0 0) ∗ (oth c fun j => dutyTok ER (dcell k' j c) 0 0)))
    ⊢ (bigSep Finset.univ fun c : Dev nD => oth c fun j => iprop(dutyTok ER (dcell k c j) 0 0 ∗ dutyTok ER (dcell k' j c) 0 0) : sProp 𝕄) from
    bigSep_mono fun c _ => oth_two c fun d => .rfl) $$ H5

theorem toks_intro :
    bigSep talkToks (fun x => (dutyTok ER x.1 x.2.1 x.2.2 : sProp 𝕄)) ⊢ (bigSep Finset.univ fun c : Dev nD => toks (F := F) c) := by
  unfold talkToks toks
  rw [bigSep_map, bigSep_univ_sum, bigSep_univ_prod, bigSep_univ_prod,
    show (Finset.univ : Finset (Fin 4)) = {0, 1, 2, 3} from by decide, bigSep_insert (by decide), bigSep_insert (by decide), bigSep_insert (by decide), bigSep_singleton]
  show iprop((bigSep Finset.univ fun c : Dev nD => bigSep Finset.univ fun j : Dev nD => dutyTok ER (barCell j) 0 c)
      ∗ (bigSep Finset.univ fun x : Dev nD × Dev nD => dutyTok ER (dcell 0 x.1 x.2) 0 0)
      ∗ (bigSep Finset.univ fun x : Dev nD × Dev nD => dutyTok ER (dcell 1 x.1 x.2) 0 0)
      ∗ (bigSep Finset.univ fun x : Dev nD × Dev nD => dutyTok ER (dcell 2 x.1 x.2) 0 0)
      ∗ (bigSep Finset.univ fun x : Dev nD × Dev nD => dutyTok ER (dcell 3 x.1 x.2) 0 0)) ⊢ _
  iintro ⟨HA, H0, H1, H2, H3⟩
  ihave HA' := (deal (F := F) fun c j => dutyTok ER (barCell j) 0 c) $$ [HA]
  · iexact HA
  ihave HC := (deal_two (F := F) 0 1) $$ [H0 H1]
  · isplitl [H0]
    · iexact H0
    · iexact H1
  ihave HG := (deal_two (F := F) 2 3) $$ [H2 H3]
  · isplitl [H2]
    · iexact H2
    · iexact H3
  iapply bigSep_pair
  isplitl [HA']
  · unfold tokA; iexact HA'
  iapply bigSep_pair
  isplitl [HC]
  · unfold tokC; iexact HC
  · unfold tokG; iexact HG

/-! ## The launch -/

def u₀ : UU :=
  (initOf (Pipeline.cells (Pipeline.pin (pcfgs (F := F)) adm) cellOf_inj) (Pipeline.launchToks (Pipeline.pin (pcfgs (F := F)) adm) cellOf_inj),
    launchOf barCells scCells talkToks)

/-- The protocol's launch element, held by device 0 until it is dealt. -/
def G (c : Dev nD) : sProp 𝕄 := if c = 0 then BI.own (ER (launchOf barCells scCells talkToks)) else iprop(emp)

theorem G_all : bigSep Finset.univ (G (F := F)) = (BI.own (ER (launchOf barCells scCells talkToks)) : sProp 𝕄) := by
  rw [bigSep_univ_at _ (0 : Dev nD), bigSep_congr (s := Finset.univ.erase (0 : Dev nD)) (Φ := G (F := F)) (Ψ := fun _ => (BI.emp : sProp 𝕄))
    (fun c hc => by unfold G; exact if_neg (Finset.ne_of_mem_erase hc)), BI.bigSep_emp_const]
  exact BI.equiv_iff.mp sep_emp

abbrev V₀ (c : Dev nD) : Valuation τ sig (Elt F) := fun b => m (c, b)

/-- What rides beside the host's buffers up to the kernel. -/
abbrev R (c : Dev nD) : sProp 𝕄 := iprop((Tk m c ∗ ∃ r, prngReg c r) ∗ ∃ W, owes (c : Thread nD τ) (O₀ c) W)

abbrev T₀ (c : Dev nD) : sProp 𝕄 := iprop(StableHlo.held (c : Thread nD τ) (Pipeline.ucRefs τ sig) (V₀ m c) ∗ R m c)
abbrev Tₙ (c : Dev nD) : sProp 𝕄 := iprop(StableHlo.held (c : Thread nD τ) (Pipeline.ucRefs τ sig) (V₂ m c) ∗ Yk (F := F) c)

/-- What a device starts with beside its part of the conversation. -/
def bundle (c : Dev nD) : sProp 𝕄 :=
  iprop(StableHlo.held (c : Thread nD τ) (Pipeline.ucRefs τ sig) (V₀ m c) ∗ creds (F := F) c ∗ owes (c : Thread nD τ) (O₀ c) ∅ ∗ ∃ r, prngReg c r)

theorem start_intro (κ : GSem nD τ sig → ℕ) (c : Dev nD) : iprop(records m κ ∗ (linear (F := F) c ∗ bundle m c)) ⊢ T₀ m c := by
  unfold bundle T₀ R Tk
  iintro ⟨#HR, Hl, Hh, HC, HO, Hp⟩
  isplitl [Hh]; · iexact Hh
  isplitr [HO]
  · isplitr [Hp]
    · isplitl [Hl]
      · iexists κ
        isplitr; · iexact HR
        iexact Hl
      · iexact HC
    · iexact Hp
  · iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem bundle_intro (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(bundle m c ∗ (semVal (barCell c) 0 ∗ G (F := F) c)) : sProp 𝕄) := by
  rw [show unscopedBufs c (fun b => m ((c : Thread nD τ).loc b)) = StableHlo.held (c : Thread nD τ) (Pipeline.ucRefs τ sig) (V₀ m c) from
    Pipeline.unscopedBufs_held c (V₀ m c), unscopedSems0_eq]
  unfold bundle
  iintro ⟨Hh, Hs, HO, Hc, Hp, HG⟩
  isplitl [Hh Hc HO Hp]
  · isplitl [Hh]; · iexact Hh
    isplitl [Hc]; · iapply (creds_intro (F := F) c) $$ Hc
    isplitl [HO]; · iexact HO
    iexists (ρ c); iexact Hp
  · isplitl [Hs]
    · iexact Hs
    · iexact HG

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  iintro ⟨H, -⟩
  ihave H1 := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barCell c) 0 ∗ G (F := F) c)) : sProp 𝕄) from
    bigSep_mono fun c _ => bundle_intro m ρ c) $$ H
  ihave H2 := bigSep_unpair $$ H1; icases H2 with ⟨HB, H3⟩
  ihave H4 := bigSep_unpair $$ H3; icases H4 with ⟨Hv, HG⟩
  imod (Rounds.fund_launch ER (talkRd (pbs m)) disjoint_cells (fun g _ h => h) talkToks) $$ [Hv HG] with ⟨%κ, -, #HI, #Hr, Hat, Ho, Ht⟩
  · isplitl [Hv]
    · iapply (show bigSep Finset.univ (fun c : Dev nD => (semVal (barCell c) 0 : sProp 𝕄)) ⊢ bigSep barCells (fun g => (semVal g 0 : sProp 𝕄)) from
        Entails.of_eq (bigSep_map (s := Finset.univ) barEmb (Φ := fun g : GSem nD τ sig => (semVal g 0 : sProp 𝕄))).symm) $$ Hv
    · iapply (Entails.of_eq (G_all (F := F))) $$ HG
  imodintro
  iapply (bigSep_with_persistent (R := records m κ) (Φ := fun c => iprop(linear (F := F) c ∗ bundle m c)) fun c _ => start_intro m κ c)
  isplitr
  · iapply (records_intro m κ)
    isplitr; · iexact HI
    iexact Hr
  iapply bigSep_pair
  isplitr [HB]
  · unfold linear
    iapply bigSep_pair
    isplitl [Hat]
    · iapply (show bigSep barCells (fun g => (atPos ER g 0 ∅ 0 : sProp 𝕄)) ⊢ bigSep Finset.univ (fun c : Dev nD => (atPos ER (barCell c) 0 ∅ 0 : sProp 𝕄)) from
        Entails.of_eq (bigSep_map (s := Finset.univ) barEmb (Φ := fun g : GSem nD τ sig => (atPos ER g 0 ∅ 0 : sProp 𝕄)))) $$ Hat
    iapply bigSep_pair
    isplitl [Ho]
    · iapply (show bigSep scCells (fun g => (openTok ER g : sProp 𝕄))
          ⊢ bigSep Finset.univ (fun c : Dev nD => bigSep Finset.univ fun x : Fin 4 × Dev nD => (openTok ER (dcell x.1 c x.2) : sProp 𝕄)) from
        Entails.of_eq (by rw [bigSep_map, bigSep_univ_prod]; rfl)) $$ Ho
    · iapply (toks_intro (F := F)) $$ Ht
  · iexact HB

/-! ## The run -/

def seg0 : Pipeline.HostSeg (Name := ℕ) (U := UU) (pcfgs (F := F)) defs₀ 𝒱₀ L lv :=
  Pipeline.HostSeg.ofOps _ _ _ _ _ (Pipeline.ucRefs τ sig) hostOps0
    (fun op hop => Pipeline.sub_ucRefs op (List.forall_iff_forall_mem.mp hostOps0_sub op hop))
    (fun op hop => List.forall_iff_forall_mem.mp hostOps0_fresh op hop) (V₀ m) (R m)

def segs : List (Pipeline.Seg (pcfgs (F := F)) adm (pdats m) () defs₀ 𝒱₀ L lv) := [.host (seg0 m), .region (reg m)]

theorem main_eq [FloatOps F] (c : Dev nD) : main (F := F) c = Pipeline.Seg.run (segs m) :=
  main_segs adm (pdats m) () 𝒱₀ L lv (seg0 m) (reg m) rfl c

theorem reg_pre (c : Dev nD) : (seg0 m).post c ⊢ (reg m).pre c := by
  show iprop(StableHlo.held (c : Thread nD τ) (Pipeline.ucRefs τ sig) (V₁ m c) ∗ R m c) ⊢
    iprop(StableHlo.held (c : Thread nD τ) (Pipeline.arrRefs spec0) (V₁ m c) ∗ (∃ r, prngReg c r)
      ∗ (StableHlo.held (c : Thread nD τ) others (V₁ m c) ∗ emp) ∗ Tk m c ∗ ∃ Wd, owes (c : Thread nD τ) (0 + O₀ c) Wd)
  rw [StableHlo.held_sub_split (c : Thread nD τ) (Pipeline.arrRefs_sub_ucRefs spec0 (by decide)) (V₁ m c), zero_add]
  iintro ⟨⟨H1, H2⟩, ⟨HT, Hp⟩, HO⟩
  isplitl [H1]; · iexact H1
  isplitl [Hp]; · iexact Hp
  isplitl [H2]
  · isplitl [H2]
    · iexact H2
    · iempintro
  isplitl [HT]; · iexact HT
  iexact HO

theorem reg_post (c : Dev nD) : (reg m).post c ⊢ iprop(Tₙ m c ∗ ∃ W, owes (c : Thread nD τ) (0 : CellTallies nD τ sig Unit) W) := by
  show iprop(StableHlo.held (c : Thread nD τ) (Pipeline.arrRefs spec0) (V₂ m c) ∗ (∃ r, prngReg c r)
      ∗ (StableHlo.held (c : Thread nD τ) others (V₂ m c) ∗ emp) ∗ Yk (F := F) c ∗ ∃ Wd, owes (c : Thread nD τ) (0 : CellTallies nD τ sig Unit) Wd) ⊢
    iprop((StableHlo.held (c : Thread nD τ) (Pipeline.ucRefs τ sig) (V₂ m c) ∗ Yk (F := F) c) ∗ ∃ W, owes (c : Thread nD τ) (0 : CellTallies nD τ sig Unit) W)
  rw [StableHlo.held_sub_split (c : Thread nD τ) (Pipeline.arrRefs_sub_ucRefs spec0 (by decide)) (V₂ m c)]
  iintro ⟨H1, -, ⟨H2, -⟩, HY, HO⟩
  isplitr [HO]
  · isplitl [H1 H2]
    · isplitl [H1]
      · iexact H1
      · iexact H2
    · iexact HY
  · iexact HO

theorem unscoped_eq : ∀ sm : SemLoc sig, sm.isScoped .tc = false → sm = .reg barS := by decide

end Cert.KernelIdeal.Talk

end
-- ==== Proof.Run.lean ====
/- The run of the whole program: every fair execution ends, with the arguments as they were and the gathered sum in the result. -/
module

public import proofs.«01_k».proof.Proof.Launched
public import Idealize.ShloMosaic.Lib.Pipeline.FrameTail

@[expose] public section

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix0 ix1 ix2 ix3 eq_ix1 eq_ix2 eq_ix3)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The buffers that a claim reads: the arguments and the result. -/
abbrev seen : List (DevRef τ sig) := [Proc.devRef .tc main_arg0, Proc.devRef .tc main_arg1, Proc.devRef .tc main_arg2, Proc.devRef .tc main_arg3, Proc.devRef .tc main_arg4, Proc.devRef .tc main_v28]

theorem seen_sub : (seen.toFinset : Finset (DevRef τ sig)) ⊆ Pipeline.ucRefs τ sig := fun b hb => by
  rw [List.mem_toFinset] at hb
  simp only [seen, List.mem_cons, List.not_mem_nil, or_false] at hb
  rcases hb with rfl | rfl | rfl | rfl | rfl | rfl <;> exact Pipeline.devRef_mem_ucRefs rfl

theorem seen_eq (c : Dev nD) : (StableHlo.held (c : Thread nD τ) seen.toFinset (V₂ m c) : sProp 𝕄)
    = iprop((((c : Dev nD), Proc.devRef .tc main_arg0) ↦{fullShare} V₂ m c main_arg0) ∗ (((c : Dev nD), Proc.devRef .tc main_arg1) ↦{fullShare} V₂ m c main_arg1) ∗ (((c : Dev nD), Proc.devRef .tc main_arg2) ↦{fullShare} V₂ m c main_arg2) ∗ (((c : Dev nD), Proc.devRef .tc main_arg3) ↦{fullShare} V₂ m c main_arg3) ∗ (((c : Dev nD), Proc.devRef .tc main_arg4) ↦{fullShare} V₂ m c main_arg4) ∗ (((c : Dev nD), Proc.devRef .tc main_v28) ↦{fullShare} V₂ m c main_v28)) := by
  unfold StableHlo.held
  rw [bigSep_eq_bigSepL_of_eq seen rfl (by decide)]
  rfl

/-- What the run leaves on device `c`. -/
def Left (c : Dev nD) (s : (ℓ : Loc nD τ sig) → Buf (Elt F) ℓ) : Prop :=
  (s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4))
  ∧ s ((c.tc : Thread nD τ).loc main_v28) = outOf (pbs m)

theorem left_intro (c : Dev nD) (s : (ℓ : Loc nD τ sig) → Buf (Elt F) ℓ)
    (h : s ((c : Dev nD), Proc.devRef .tc main_arg0) = V₂ m c main_arg0 ∧ s ((c : Dev nD), Proc.devRef .tc main_arg1) = V₂ m c main_arg1 ∧ s ((c : Dev nD), Proc.devRef .tc main_arg2) = V₂ m c main_arg2 ∧ s ((c : Dev nD), Proc.devRef .tc main_arg3) = V₂ m c main_arg3 ∧ s ((c : Dev nD), Proc.devRef .tc main_arg4) = V₂ m c main_arg4 ∧ s ((c : Dev nD), Proc.devRef .tc main_v28) = V₂ m c main_v28) : Left m c s := by
  obtain ⟨h0, h1, h2, h3, h4, h5⟩ := h
  exact ⟨⟨h0.trans ((V₂_ne m c (StableHlo.devRef_ne_of_ne (by decide))).trans (V_main_arg0 m c)),
      h1.trans ((V₂_ne m c (StableHlo.devRef_ne_of_ne (by decide))).trans (V_main_arg1 m c)),
      h2.trans ((V₂_ne m c (StableHlo.devRef_ne_of_ne (by decide))).trans (V_main_arg2 m c)),
      h3.trans ((V₂_ne m c (StableHlo.devRef_ne_of_ne (by decide))).trans (V_main_arg3 m c)),
      h4.trans ((V₂_ne m c (StableHlo.devRef_ne_of_ne (by decide))).trans (V_main_arg4 m c))⟩,
    h5.trans (V₂_out m c)⟩

set_option backward.isDefEq.respectTransparency.types false in
/-- From any memory with its semaphores at zero, every fair execution of the program on the eight devices ends; the arguments
    are then unchanged, every device's result is the gathered sum, and every semaphore reads zero. -/
theorem run_main : θ_run defs (onTc (τ := τ) (main (F := F))) ⟨m, fun _ => 0, ρ⟩
    (fun r => (∀ c : Dev nD, Left m c r.2.mem) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg_pre m c, fun c => reg_post m c⟩)
    (hinit := init m ρ)
    (QY := fun c s => Left m c s.mem ∧ s.sem (barCell c) = 0)
    (hfin := fun c s' => by
      dsimp only [Tₙ]; rw [StableHlo.held_sub_split (c : Thread nD τ) seen_sub (V₂ m c), seen_eq]; unfold Yk
      iintro ⟨⟨⟨⟨H0, H1, H2, H3, H4, H5⟩, -⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨left_intro m c _ ⟨Buf.eq_of_forall_mem_univ h0, Buf.eq_of_forall_mem_univ h1, Buf.eq_of_forall_mem_univ h2,
          Buf.eq_of_forall_mem_univ h3, Buf.eq_of_forall_mem_univ h4, Buf.eq_of_forall_mem_univ h5⟩, by simpa using hb⟩
      iexact HSI)
    (hQ := fun s h hs => ⟨fun c => (h c).1, sem_eq_zero hs fun c sm hsm => by
      obtain rfl := unscoped_eq sm hsm
      exact (h c).2⟩)

/-- The same, of the arguments and the semaphores only. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun _ h => ⟨fun c => (h.1 c).1, h.2⟩) (run_main m ρ)

end Cert.KernelIdeal.Talk

end
-- ==== Proof.Maths.lean ====
/- The mathematics that both sides come to: the rotation of a pair of lanes by its angle, the scores, the weighted sum of
the values; and the weights of real scores, which do not change when the row's largest score is taken from every score. -/
module

public import Idealize.ShloMosaic.Lib.Pointwise

@[expose] public section

noncomputable section

namespace Cert.Attention

open Idealize.ShloMosaic

/-! ### Real numbers among the extended reals -/

/-- `x` is a real number. -/
def IsReal (x : EReal) : Prop := ∃ r : ℝ, x = (r : EReal)

theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.neg {x : EReal} : IsReal x → IsReal (-x) := fun ⟨a, ha⟩ => ⟨-a, by rw [ha, EReal.coe_neg]⟩
theorem isReal_zero : IsReal 0 := ⟨0, rfl⟩
theorem IsReal.sum {ι : Type} (s : Finset ι) (f : ι → EReal) (h : ∀ i, IsReal (f i)) : IsReal (∑ i ∈ s, f i) := by
  classical
  induction s using Finset.induction_on with
  | empty => exact isReal_zero
  | insert a s ha ih => rw [Finset.sum_insert ha]; exact (h a).add ih
theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-! ### The constants -/

theorem eighth : Ideal.ofBits .f32 0x3E000000#32 = ((1 / 8 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem sixtyFour : Ideal.ofBits .f32 0x42800000#32 = ((64 : ℝ) : EReal) := by
  simp [Ideal.ofBits, Ideal.ieee, -EReal.coe_mul]; norm_num
theorem tenThousand : Ideal.ofBits .f32 0x461C4000#32 = ((10000 : ℝ) : EReal) := by
  simp [Ideal.ofBits, Ideal.ieee, -EReal.coe_mul]; norm_num
theorem lowest : Ideal.ofBits .f32 0xFF800000#32 = ⊥ := by
  simp [Ideal.ofBits, Ideal.ieee]

/-! ### The angles -/

/-- The angle of position `p` and pair of lanes `n`. -/
def theta (p n : ℕ) : ℝ := p * (10000 : ℝ) ^ (-(2 * n : ℝ) / 64)

/-- A small whole number made a float. -/
theorem sitofp_small (n : ℕ) (h : n < 1000) : (FloatOps.sitofp .f32 (BitVec.ofNat 32 n) : Ideal .f32) = ((n : ℝ) : EReal) := by
  show (((BitVec.ofNat 32 n).toInt : ℝ) : EReal) = _
  have e : (BitVec.ofNat 32 n).toNat = n := by rw [BitVec.toNat_ofNat, Nat.mod_eq_of_lt (by omega)]
  rw [BitVec.toInt_eq_toNat_of_lt (by rw [e]; omega), e, Int.cast_natCast]

/-- The power with a negated exponent. -/
theorem rate_of_neg (n : ℕ) : Ideal.pow (Ideal.ofBits .f32 0x461C4000#32)
      (Ideal.div (-(Ideal.ofBits .f32 0x40000000#32 * ((n : ℝ) : EReal))) (Ideal.ofBits .f32 0x42800000#32))
    = (((10000 : ℝ) ^ (-(2 * n : ℝ) / 64) : ℝ) : EReal) := by
  rw [tenThousand, two, sixtyFour, ← EReal.coe_mul, ← EReal.coe_neg, div_coe _ _ (by norm_num)]
  rfl

/-- The reciprocal of the power. -/
theorem rate_of_div (n : ℕ) : Ideal.div 1 (Ideal.pow (Ideal.ofBits .f32 0x461C4000#32)
      (Ideal.div (((2 * n : ℕ) : ℝ) : EReal) (Ideal.ofBits .f32 0x42800000#32)))
    = (((10000 : ℝ) ^ (-(2 * n : ℝ) / 64) : ℝ) : EReal) := by
  rw [tenThousand, sixtyFour, div_coe _ _ (by norm_num)]
  show Ideal.div ((1 : ℝ) : EReal) (((10000 : ℝ) ^ (((2 * n : ℕ) : ℝ) / 64) : ℝ) : EReal) = _
  rw [div_coe _ _ (by positivity), neg_div, Real.rpow_neg (by norm_num), one_div]
  push_cast
  rfl

/-! ### What a head computes -/

/-- Row `p` rotated: each pair of lanes turned by its angle. -/
def turn (p : Fin 128) (t : Fin 64 → EReal) (e : Fin 64) : EReal :=
  t e * ((Real.cos (theta p (e / 2)) : ℝ) : EReal)
    + (if e.val % 2 < 1 then - t ⟨e / 2 * 2 + 1, by omega⟩ else t ⟨e / 2 * 2, by omega⟩) * ((Real.sin (theta p (e / 2)) : ℝ) : EReal)

theorem IsReal.turn {p : Fin 128} {t : Fin 64 → EReal} (h : ∀ e, IsReal (t e)) (e : Fin 64) : IsReal (turn p t e) := by
  unfold Attention.turn
  refine ((h _).mul ⟨_, rfl⟩).add (IsReal.mul ?_ ⟨_, rfl⟩)
  split
  · exact (h _).neg
  · exact h _

/-- The score of key `j` for query `i`. -/
def score (q k : Fin 128 → Fin 64 → EReal) (i j : Fin 128) : EReal :=
  (∑ e : Fin 64, q i e * k j e) * Ideal.ofBits .f32 0x3E000000#32

theorem IsReal.score {q k : Fin 128 → Fin 64 → EReal} (hq : ∀ i e, IsReal (q i e)) (hk : ∀ i e, IsReal (k i e)) (i j : Fin 128) :
    IsReal (score q k i j) :=
  (IsReal.sum _ _ fun e => (hq i e).mul (hk j e)).mul ⟨_, eighth⟩

/-- The output of a head: the weighted sum of the values. -/
def attend (q k v : Fin 128 → Fin 64 → EReal) (i : Fin 128) (d : Fin 64) : EReal :=
  ∑ j : Fin 128, Ideal.div (Ideal.exp (score q k i j)) (∑ l : Fin 128, Ideal.exp (score q k i l)) * v j d

/-! ### The weights -/

/-- The largest of real numbers is a real number. -/
theorem isReal_largest (s : Fin 128 → EReal) (h : ∀ j, IsReal (s j)) : IsReal (Finset.univ.fold max ⊥ s) := by
  obtain ⟨i, -, e⟩ := Finset.exists_mem_eq_sup Finset.univ ⟨0, Finset.mem_univ _⟩ s
  obtain ⟨r, hr⟩ := h i
  exact ⟨r, (show Finset.univ.sup s = r from e.trans hr)⟩

/-- Taking one real number from every score leaves the weights as they are. -/
theorem weight_shift (s : Fin 128 → EReal) (h : ∀ j, IsReal (s j)) (M : EReal) (hM : IsReal M) (j : Fin 128) :
    Ideal.div (Ideal.exp (s j - M)) (∑ l : Fin 128, Ideal.exp (s l - M)) = Ideal.div (Ideal.exp (s j)) (∑ l : Fin 128, Ideal.exp (s l)) := by
  obtain ⟨μ, rfl⟩ := hM
  choose r hr using h
  obtain rfl : s = fun j => (r j : EReal) := funext hr
  have e : ∀ l, Ideal.exp ((r l : EReal) - (μ : EReal)) = ((Real.exp (r l - μ) : ℝ) : EReal) := fun l => by
    rw [← EReal.coe_sub]; rfl
  have e' : ∀ l, Ideal.exp (r l : EReal) = ((Real.exp (r l) : ℝ) : EReal) := fun _ => rfl
  have pos : ∀ g : Fin 128 → ℝ, (∑ l, Real.exp (g l)) ≠ 0 := fun g =>
    (Finset.sum_pos (fun l _ => Real.exp_pos _) ⟨0, Finset.mem_univ _⟩).ne'
  simp only [e, e', coe_sum]
  rw [div_coe _ _ (pos _), div_coe _ _ (pos _)]
  congr 1
  simp only [Real.exp_sub, ← Finset.sum_div]
  exact div_div_div_cancel_right₀ (Real.exp_pos μ).ne' _ _

end Cert.Attention
-- ==== Proof.Heads.lean ====
/- What one head of one batch computes on a device, read at an entry: the scores are the products of the rotated queries
and keys scaled by an eighth, the weights are their exponentials divided by the row's sum, and the head's output is the
weighted sum of the values. -/
module

public import proofs.«01_k».proof.Proof.Body
public import proofs.«01_k».proof.Proof.Maths

@[expose] public section

noncomputable section

namespace Cert.KernelIdeal.Talk

open Idealize.ShloMosaic Cert.Attention
open Cert.KernelIdeal.Gen

/-- A head from its queries, keys and values, in the kernel's operations. -/
def hd (q k v : FVec Ideal S128x64 .bf16) : FVec Ideal S128x64 .f32 :=
  have e : FVec Ideal S128x128 .f32 := exp (mulf
    (matmul dot_S128x64_S64x128_S128x128_1_0_0_1_n_n none q (transpose S64x128 [1, 0] k transposes_S128x64_p1_0_S64x128)
      (constant S128x128 .f32 0x00000000#32)) (broadcast S128x128 (Scalar.ofBits .f32 0x3E000000#32)))
  have r : FVec Ideal S128 .f32 := multiReduction .add [1] S128 e 0x00000000#32 reduces_S128x128_S128 (.inl rfl) rfl
  have w : FVec Ideal S128x128 .bf16 :=
    truncf .bf16 (divf e (broadcastTo S128x128 (shapeCast S128x1 r shapeCasts_S128_S128x1) broadcasts_S128x1_S128x128)) bitsLt_bf16_f32
  matmul dot_S128x128_S128x64_S128x64_1_0_0_1_n_n none w v (constant S128x64 .f32 0x00000000#32)

theorem hd_apply (q k v : FVec Ideal S128x64 .bf16) (i : Fin 128) (d : Fin 64) :
    hd q k v (ix2 i d) = attend (fun i e => q (ix2 i e)) (fun i e => k (ix2 i e)) (fun i e => v (ix2 i e)) i d := by
  pointwise [hd, attend, score]

/-- A head whose operands are the rows from `o` on and the lanes from `p` on of three arrays. -/
theorem hd_slice_apply (q k v : FVec Ideal S256x256 .bf16) (o p : Nat) (hs : S256x256.Slices ![o, p] S128x64)
    (ho : o + 128 ≤ 256) (hp : p + 64 ≤ 256) (i : Fin 128) (d : Fin 64) :
    hd (extractStridedSlice S128x64 ![o, p] q hs) (extractStridedSlice S128x64 ![o, p] k hs)
        (extractStridedSlice S128x64 ![o, p] v hs) (ix2 i d)
      = attend (fun i e => q (ix2 ⟨o + i, by omega⟩ ⟨p + e, by omega⟩)) (fun i e => k (ix2 ⟨o + i, by omega⟩ ⟨p + e, by omega⟩))
          (fun i e => v (ix2 ⟨o + i, by omega⟩ ⟨p + e, by omega⟩)) i d := by
  rw [hd_apply]
  pointwise []

end Cert.KernelIdeal.Talk
-- ==== Proof.Partial.lean ====
/- The device's partial product read at an entry: a row of the heads' outputs, laid side by side, against a column of the
device's rows of the output projection. -/
module

public import proofs.«01_k».proof.Proof.Heads
public import Idealize.ShloMosaic.Lib.Pipeline.Value

@[expose] public section

noncomputable section

namespace Cert.KernelIdeal.Talk

open Idealize.ShloMosaic Cert.Attention
open Cert.KernelIdeal.Gen

/-- Four pieces of 64 lanes side by side. -/
theorem cat_lanes {α : Type} (f : Fin 4 → S128x64.Idx → α)
    (h : Shape.Concatenates ((List.ofFn fun n : Fin 4 => (⟨S128x64, f n⟩ : (s : Shape) × (s.Idx → α))).map (·.1)) S128x256 1)
    (i : Fin 128) (l : Fin 256) :
    concatenate S128x256 1 (List.ofFn fun n : Fin 4 => (⟨S128x64, f n⟩ : (s : Shape) × (s.Idx → α))) h (ix2 i l)
      = f ⟨l / 64, by omega⟩ (ix2 i ⟨l % 64, by omega⟩) :=
  concatenate_ofFn_apply 1 f h rfl 64 rfl _ _ rfl _ rfl (by intro b hb; fin_cases b <;> first | rfl | exact absurd rfl hb)

/-- Two pieces of 128 rows one over the other. -/
theorem cat_rows {α : Type} (f : Fin 2 → S128x256.Idx → α)
    (h : Shape.Concatenates ((List.ofFn fun n : Fin 2 => (⟨S128x256, f n⟩ : (s : Shape) × (s.Idx → α))).map (·.1)) S256x256 0)
    (r : Fin 256) (l : Fin 256) :
    concatenate S256x256 0 (List.ofFn fun n : Fin 2 => (⟨S128x256, f n⟩ : (s : Shape) × (s.Idx → α))) h (ix2 r l)
      = f ⟨r / 128, by omega⟩ (ix2 ⟨r % 128, by omega⟩ l) :=
  concatenate_ofFn_apply 0 f h rfl 128 rfl _ _ rfl _ rfl (by intro b hb; fin_cases b <;> first | rfl | exact absurd rfl hb)

/-- Row `i` of batch `b`. -/
def row (b : Fin 2) (i : Fin 128) : Fin 256 := ⟨128 * b + i, by omega⟩
/-- Lane `e` of the device's head `h`. -/
def lane (h : Fin 4) (e : Fin 64) : Fin 256 := ⟨64 * h + e, by omega⟩

variable (A : Vec Ideal S512x512 .f32) (B : Vec Ideal S1792x256 .f32)

/-- The output of head `h` of batch `b`. -/
def headOut (b : Fin 2) (h : Fin 4) : Fin 128 → Fin 64 → EReal :=
  attend (fun i e => x95 A B (ix2 (row b i) (lane h e))) (fun i e => x96 A B (ix2 (row b i) (lane h e)))
    (fun i e => x50 A B (ix2 (row b i) (lane h e)))

/-- The eight heads as the kernel computes them. -/
def heads : Fin 2 → Fin 4 → FVec Ideal S128x64 .f32 :=
  ![![k0_pay11 (k0_pay3 (ldB3 B)) (k0_pay4 (ldB4 B)) (x50 A B) (x51 A B) x52 x53 k0_pay7,
      hd (extractStridedSlice S128x64 ![0, 64] (x95 A B) slices_S256x256_o0_64_S128x64)
        (extractStridedSlice S128x64 ![0, 64] (x96 A B) slices_S256x256_o0_64_S128x64)
        (extractStridedSlice S128x64 ![0, 64] (x50 A B) slices_S256x256_o0_64_S128x64),
      hd (extractStridedSlice S128x64 ![0, 128] (x95 A B) slices_S256x256_o0_128_S128x64)
        (extractStridedSlice S128x64 ![0, 128] (x96 A B) slices_S256x256_o0_128_S128x64)
        (extractStridedSlice S128x64 ![0, 128] (x50 A B) slices_S256x256_o0_128_S128x64),
      hd (extractStridedSlice S128x64 ![0, 192] (x95 A B) slices_S256x256_o0_192_S128x64)
        (extractStridedSlice S128x64 ![0, 192] (x96 A B) slices_S256x256_o0_192_S128x64)
        (extractStridedSlice S128x64 ![0, 192] (x50 A B) slices_S256x256_o0_192_S128x64)],
    ![k0_pay17 (x50 A B) (k0_pay15 (x95 A B) (x96 A B)) (k0_pay16 (x95 A B) (x96 A B)),
      k0_pay18 (x50 A B) (x95 A B) (x96 A B), k0_pay19 (x50 A B) (x95 A B) (x96 A B), k0_pay20 (x50 A B) (x95 A B) (x96 A B)]]

theorem heads_apply (b : Fin 2) (h : Fin 4) (i : Fin 128) (d : Fin 64) : heads A B b h (ix2 i d) = headOut A B b h i d := by
  have H := hd_slice_apply (x95 A B) (x96 A B) (x50 A B)
  fin_cases b <;> fin_cases h
  · exact H 0 0 slices_S256x256_o0_0_S128x64 (by omega) (by omega) i d
  · exact H 0 64 slices_S256x256_o0_64_S128x64 (by omega) (by omega) i d
  · exact H 0 128 slices_S256x256_o0_128_S128x64 (by omega) (by omega) i d
  · exact H 0 192 slices_S256x256_o0_192_S128x64 (by omega) (by omega) i d
  · exact H 128 0 slices_S256x256_o128_0_S128x64 (by omega) (by omega) i d
  · exact H 128 64 slices_S256x256_o128_64_S128x64 (by omega) (by omega) i d
  · exact H 128 128 slices_S256x256_o128_128_S128x64 (by omega) (by omega) i d
  · exact H 128 192 slices_S256x256_o128_192_S128x64 (by omega) (by omega) i d

/-- The heads' outputs, side by side and batch over batch. -/
def ctx : FVec Ideal S256x256 .f32 :=
  concatenate S256x256 0 [⟨S128x256, x153 A B⟩, ⟨S128x256, concatenate S128x256 1
    [⟨S128x64, heads A B 1 0⟩, ⟨S128x64, heads A B 1 1⟩, ⟨S128x64, heads A B 1 2⟩, ⟨S128x64, heads A B 1 3⟩]
    concatenates_S128x64_S128x64_S128x64_S128x64_S128x256_d1⟩] concatenates_S128x256_S128x256_S256x256_d0

theorem ctx_apply (r l : Fin 256) :
    ctx A B (ix2 r l) = headOut A B ⟨r / 128, by omega⟩ ⟨l / 64, by omega⟩ ⟨r % 128, by omega⟩ ⟨l % 64, by omega⟩ := by
  have lanes : ∀ b : Fin 2, concatenate S128x256 1 (List.ofFn fun n : Fin 4 => (⟨S128x64, heads A B b n⟩ : (s : Shape) × (s.Idx → EReal)))
      concatenates_S128x64_S128x64_S128x64_S128x64_S128x256_d1 (ix2 ⟨r % 128, by omega⟩ l)
      = headOut A B b ⟨l / 64, by omega⟩ ⟨r % 128, by omega⟩ ⟨l % 64, by omega⟩ := fun b =>
    (cat_lanes (heads A B b) _ _ _).trans (heads_apply A B b _ _ _)
  refine (cat_rows (fun b => concatenate S128x256 1 (List.ofFn fun n : Fin 4 => (⟨S128x64, heads A B b n⟩ : (s : Shape) × (s.Idx → EReal)))
    concatenates_S128x64_S128x64_S128x64_S128x64_S128x256_d1) concatenates_S128x256_S128x256_S256x256_d0 r l).trans ?_
  exact lanes _

theorem pbOf_apply (r : Fin 256) (n : Fin 512) : pbOf A B (ix2 r n) = ∑ l : Fin 256, ctx A B (ix2 r l) * ldA1 A (ix2 l n) := by
  show k0_pay21 (k0_pay2 (ldA1 A)) (x153 A B) (heads A B 1 0) (heads A B 1 1) (heads A B 1 2) (heads A B 1 3) (ix2 r n) = _
  have e : k0_pay21 (k0_pay2 (ldA1 A)) (x153 A B) (heads A B 1 0) (heads A B 1 1) (heads A B 1 2) (heads A B 1 3)
      = shapeCast S256x512 (truncf .bf16 (matmul dot_S256x256_S256x512_S256x512_1_0_0_1_n_n none
          (truncf .bf16 (ctx A B) bitsLt_bf16_f32) (k0_pay2 (ldA1 A)) (constant S256x512 .f32 0x00000000#32)) bitsLt_bf16_f32)
          shapeCasts_S256x512_S256x512 := rfl
  rw [e]
  pointwise [k0_pay2]

end Cert.KernelIdeal.Talk
-- ==== Proof.Rope.lean ====
/- The rotation of queries and keys read at an entry: the entry times its cosine, plus its neighbour in the pair (negated
when the entry is the first of the pair) times its sine. The kernel reaches the neighbour by a product with a matrix of
zeros and signed ones. -/
module

public import proofs.«01_k».proof.Proof.Partial

@[expose] public section

noncomputable section

namespace Cert.KernelIdeal.Talk

open Idealize.ShloMosaic Cert.Attention
open Cert.KernelIdeal.Gen

/-- The other lane of the pair that lane `l` lies in. -/
def mate (l : Fin 256) : Fin 256 := if h : l.val % 2 = 0 then ⟨l + 1, by omega⟩ else ⟨l - 1, by omega⟩

/-- The signed ones: what lane `i` gives lane `j`. -/
def perm (i j : Fin 256) : EReal :=
  if i.val = j.val + 1 ∧ j.val % 2 = 0 then -1 else if j.val = i.val + 1 ∧ ¬ j.val % 2 = 0 then 1 else 0

/-- The lane's parity, as the kernel computes it. -/
theorem parity (i l : Fin 256) : k0_pay7 (ix2 i l) = BitVec.ofNat 32 (l % 2) := by
  pointwise [k0_pay7]
  revert l
  decide +kernel

/-- Four copies of a table, one over the other. -/
theorem stacked (c : FVec Ideal S128x256 .f32) (r : Fin 512) (l : Fin 256) :
    concatenate S512x256 0 [⟨S128x256, c⟩, ⟨S128x256, c⟩, ⟨S128x256, c⟩, ⟨S128x256, c⟩]
      concatenates_S128x256_S128x256_S128x256_S128x256_S512x256_d0 (ix2 r l) = c (ix2 ⟨r % 128, by omega⟩ l) := by
  pointwise []
  split_ifs <;> congr 2 <;> exact Fin.ext (by simp only []; omega)

theorem ofNat_eq_iff (a b : Nat) (ha : a < 1000) (hb : b < 1000) : BitVec.ofNat 32 a = BitVec.ofNat 32 b ↔ a = b := by
  rw [← BitVec.toNat_inj, BitVec.toNat_ofNat, BitVec.toNat_ofNat, Nat.mod_eq_of_lt (by omega), Nat.mod_eq_of_lt (by omega)]

/-- Two selections, one inside the other, by the bits of three conditions. -/
theorem choose_of_bits (p q e : Prop) [Decidable p] [Decidable q] [Decidable e] (m : EReal) :
    Scalar.select (IntOp.andi (BitVec.ofBool (decide p)) (BitVec.ofBool (decide e))) m
      (Scalar.select (IntOp.andi (BitVec.ofBool (decide q)) (IntOp.xori (BitVec.ofBool (decide e)) 1#1)) 1 0)
      = if p ∧ e then m else if q ∧ ¬ e then 1 else 0 := by
  by_cases hp : p <;> by_cases hq : q <;> by_cases he : e <;> simp only [hp, hq, he, decide_true, decide_false, true_and,
    false_and, and_true, and_false, not_true, not_false_iff, if_true, if_false] <;> rfl

/-- The kernel's choice between minus one, one and zero is the matrix of signed ones. -/
theorem chosen (i j : Fin 256) :
    Scalar.select (IntOp.andi (IntOp.cmpi .eq (BitVec.ofNat 32 i) (IntOp.addi (BitVec.ofNat 32 j) 1#32))
        (IntOp.cmpi .eq (BitVec.ofNat 32 (j % 2)) 0#32)) (Ideal.ofBits .f32 0xBF800000#32)
      (Scalar.select (IntOp.andi (IntOp.cmpi .eq (BitVec.ofNat 32 j) (IntOp.addi (BitVec.ofNat 32 i) 1#32))
        (IntOp.xori (IntOp.cmpi .eq (BitVec.ofNat 32 (j % 2)) 0#32) 1#1)) (1 : EReal) 0) = perm i j := by
  have m1 : Ideal.ofBits .f32 0xBF800000#32 = (-1 : EReal) := by
    simp [Ideal.ofBits, Ideal.ieee, -EReal.coe_mul]; norm_num
  have a : ∀ i j : Fin 256, IntOp.cmpi .eq (BitVec.ofNat 32 i) (IntOp.addi (BitVec.ofNat 32 j) 1#32)
      = BitVec.ofBool (decide (i.val = j.val + 1)) := fun i j => by
    show BitVec.ofBool (BitVec.ofNat 32 i == BitVec.ofNat 32 j + BitVec.ofNat 32 1) = _
    rw [← BitVec.ofNat_add, beq_eq_decide]
    exact congrArg _ (decide_eq_decide.2 (ofNat_eq_iff _ _ (by omega) (by omega)))
  have b : IntOp.cmpi .eq (BitVec.ofNat 32 (j % 2)) 0#32 = BitVec.ofBool (decide (j.val % 2 = 0)) := by
    show BitVec.ofBool (BitVec.ofNat 32 (j % 2) == BitVec.ofNat 32 0) = _
    rw [beq_eq_decide]
    exact congrArg _ (decide_eq_decide.2 (ofNat_eq_iff _ _ (by omega) (by omega)))
  rw [a i j, a j i, b, m1]
  exact choose_of_bits _ _ _ _

/-- The rotated row from its entries and the row's cosines and sines. -/
def rot (c s t : Fin 256 → EReal) (l : Fin 256) : EReal :=
  t l * c l + (if l.val % 2 = 0 then - t (mate l) else t (mate l)) * s l

theorem perm_sum (t : Fin 256 → EReal) (l : Fin 256) :
    ∑ i, t i * perm i l = if l.val % 2 = 0 then - t (mate l) else t (mate l) := by
  rw [Finset.sum_eq_single (mate l)]
  · unfold perm mate
    by_cases h : l.val % 2 = 0
    · rw [dif_pos h, if_pos h, if_pos ⟨rfl, h⟩, mul_neg, mul_one]
    · rw [dif_neg h, if_neg h, if_neg (fun c => h c.2), if_pos ⟨by simp only []; omega, h⟩, mul_one]
  · intro i _ hi
    have : perm i l = 0 := by
      unfold perm
      rw [if_neg, if_neg]
      · rintro ⟨h1, h2⟩; exact hi (Fin.ext (by unfold mate; rw [dif_neg (by omega)]; simp only []; omega))
      · rintro ⟨h1, h2⟩; exact hi (Fin.ext (by unfold mate; rw [dif_pos h2]; exact h1))
    rw [this, mul_zero]
  · intro h; exact absurd (Finset.mem_univ _) h

theorem pay8_apply (c s : FVec Ideal S128x256 .f32) (t : FVec Ideal S512x256 .f32) (r : Fin 512) (l : Fin 256) :
    k0_pay8 c s t x52 x53 k0_pay7 (ix2 r l)
      = rot (fun l => c (ix2 ⟨r % 128, by omega⟩ l)) (fun l => s (ix2 ⟨r % 128, by omega⟩ l)) (fun l => t (ix2 r l)) l := by
  have e := perm_sum (fun l => t (ix2 r l)) l
  unfold rot
  beta_reduce at e ⊢
  rw [← e]
  unfold k0_pay8
  pointwise [x52, x53, stacked, parity, chosen]

variable (A : Vec Ideal S512x512 .f32) (B : Vec Ideal S1792x256 .f32)

/-- A product of the input's rows with a block of weights. -/
def proj (X : Vec Ideal S256x512 .f32) (W : Vec Ideal S512x256 .f32) (r : Fin 256) (l : Fin 256) : EReal :=
  ∑ k : Fin 512, X (ix2 r k) * W (ix2 k l)

theorem x50_apply (r l : Fin 256) : x50 A B (ix2 r l) = proj (ldA0 A) (ldB2 B) r l := by
  pointwise [x50, x30, k0_pay1, k0_pay5, proj]

theorem x51_left (r l : Fin 256) : x51 A B (ix2 ⟨r, by omega⟩ l) = proj (ldA0 A) (ldB0 B) r l := by
  pointwise [x51, x30, k0_pay1, k0_pay6, proj]

theorem x51_right (r l : Fin 256) : x51 A B (ix2 ⟨256 + r, by omega⟩ l) = proj (ldA0 A) (ldB1 B) r l := by
  pointwise [x51, x30, k0_pay1, k0_pay6, proj]

theorem x95_apply (r l : Fin 256) :
    x95 A B (ix2 r l) = rot (fun l => ldB3 B (ix2 ⟨r % 128, by omega⟩ l)) (fun l => ldB4 B (ix2 ⟨r % 128, by omega⟩ l))
      (proj (ldA0 A) (ldB0 B) r) l := by
  have e : ∀ l, x51 A B (ix2 ⟨r, by omega⟩ l) = proj (ldA0 A) (ldB0 B) r l := x51_left A B r
  refine Eq.trans (b := k0_pay8 (k0_pay3 (ldB3 B)) (k0_pay4 (ldB4 B)) (x51 A B) x52 x53 k0_pay7 (ix2 ⟨r, by omega⟩ l)) ?_ ?_
  · pointwise [x95, k0_pay9]
  · rw [pay8_apply]
    simp only [e]
    pointwise [k0_pay3, k0_pay4]

theorem x96_apply (r l : Fin 256) :
    x96 A B (ix2 r l) = rot (fun l => ldB3 B (ix2 ⟨r % 128, by omega⟩ l)) (fun l => ldB4 B (ix2 ⟨r % 128, by omega⟩ l))
      (proj (ldA0 A) (ldB1 B) r) l := by
  have e : ∀ l, x51 A B (ix2 ⟨256 + r, by omega⟩ l) = proj (ldA0 A) (ldB1 B) r l := x51_right A B r
  have m : (256 + r.val) % 128 = r.val % 128 := by omega
  refine Eq.trans (b := k0_pay8 (k0_pay3 (ldB3 B)) (k0_pay4 (ldB4 B)) (x51 A B) x52 x53 k0_pay7 (ix2 ⟨256 + r, by omega⟩ l)) ?_ ?_
  · pointwise [x96, k0_pay10]
  · rw [pay8_apply]
    simp only [e, m]
    pointwise [k0_pay3, k0_pay4]

end Cert.KernelIdeal.Talk
-- ==== Proof.Loads.lean ====
/- The parts of the two packed arrays that the kernel loads, read at an entry. -/
module

public import proofs.«01_k».proof.Proof.Rope

@[expose] public section

noncomputable section

namespace Cert.KernelIdeal.Talk

open Idealize.ShloMosaic Cert.Attention
open Cert.KernelIdeal.Gen

variable (A : Vec Ideal S512x512 .f32) (B : Vec Ideal S1792x256 .f32)

/-- A load of whole rows of the first array, from row `o` on. -/
theorem rowsA_apply (o : Nat) (inb : ∀ a, (![o, 0] : Fin 2 → Nat) a + S256x512.size a ≤ S512x512.size a) (ho : o + 256 ≤ 512)
    (r : Fin 256) (k : Fin 512) :
    (aM.access (Rect.unit (s := S512x512) ![o, 0] S256x512.size inb)).read (Elt Ideal) A (ix2 r k) = A (ix2 ⟨o + r, by omega⟩ k) := by
  refine congrArg A (funext fun b => Fin.ext ?_)
  fin_cases b
  · show o + 1 * r.val = o + r.val; omega
  · show 0 + 1 * k.val = k.val; omega

/-- A load of `n` whole rows of the second array, from row `o` on. -/
theorem rowsB_apply (o n : Nat) (inb : ∀ a, (![o, 0] : Fin 2 → Nat) a + (![n, 256] : Fin 2 → Nat) a ≤ S1792x256.size a) (ho : o + n ≤ 1792)
    (r : Fin n) (k : Fin 256) :
    (bM.access (Rect.unit (s := S1792x256) ![o, 0] ![n, 256] inb)).read (Elt Ideal) B (ix2 r k) = B (ix2 ⟨o + r, by omega⟩ k) := by
  refine congrArg B (funext fun b => Fin.ext ?_)
  fin_cases b
  · show o + 1 * r.val = o + r.val; omega
  · show 0 + 1 * k.val = k.val; omega

theorem ldA0_apply (r : Fin 256) (k : Fin 512) : ldA0 A (ix2 r k) = A (ix2 ⟨0 + r, by omega⟩ k) :=
  rowsA_apply A 0 _ (by omega) r k
theorem ldA1_apply (r : Fin 256) (k : Fin 512) : ldA1 A (ix2 r k) = A (ix2 ⟨256 + r, by omega⟩ k) :=
  rowsA_apply A 256 _ (by omega) r k
theorem ldB0_apply (r : Fin 512) (k : Fin 256) : ldB0 B (ix2 r k) = B (ix2 ⟨0 + r, by omega⟩ k) :=
  rowsB_apply B 0 512 _ (by omega) r k
theorem ldB1_apply (r : Fin 512) (k : Fin 256) : ldB1 B (ix2 r k) = B (ix2 ⟨512 + r, by omega⟩ k) :=
  rowsB_apply B 512 512 _ (by omega) r k
theorem ldB2_apply (r : Fin 512) (k : Fin 256) : ldB2 B (ix2 r k) = B (ix2 ⟨1024 + r, by omega⟩ k) :=
  rowsB_apply B 1024 512 _ (by omega) r k
theorem ldB3_apply (r : Fin 128) (k : Fin 256) : ldB3 B (ix2 r k) = B (ix2 ⟨1536 + r, by omega⟩ k) :=
  rowsB_apply B 1536 128 _ (by omega) r k
theorem ldB4_apply (r : Fin 128) (k : Fin 256) : ldB4 B (ix2 r k) = B (ix2 ⟨1664 + r, by omega⟩ k) :=
  rowsB_apply B 1664 128 _ (by omega) r k

end Cert.KernelIdeal.Talk
-- ==== Proof.Packed.lean ====
/- The two packed arrays that a device builds from its arguments before the kernel, read at an entry: the input's rows over
the device's rows of the output projection; and the three blocks of weights over the tables of cosines and sines. -/
module

public import proofs.«01_k».proof.Proof.Loads
public import proofs.«01_k».proof.Proof.Region
public import Idealize.ShloMosaic.Lib.StableHlo.ReadAt

@[expose] public section

noncomputable section

namespace Cert.KernelIdeal.Talk

open Idealize.ShloMosaic Idealize.ShloMosaic.TcCoe Idealize.SL.Sem Cert.Attention
open Cert.KernelIdeal.Gen

variable (m : (ℓ : Loc nD τ sig) → Buf (Elt Ideal) ℓ) (c : Dev nD)

theorem aIn_top (r : Fin 256) (k : Fin 512) :
    aIn m c (ix2 ⟨0 + r, by omega⟩ k) = (m ((c.tc : Thread nD τ).loc main_arg0) : Vec Ideal S2x128x512 .f32) (ix3 ⟨r / 128, by omega⟩ ⟨r % 128, by omega⟩ k) := by
  unfold aIn V
  after_reads_at

theorem aIn_bot (r : Fin 256) (k : Fin 512) :
    aIn m c (ix2 ⟨256 + r, by omega⟩ k) = (m ((c.tc : Thread nD τ).loc main_arg4) : Vec Ideal S256x512 .f32) (ix2 r k) := by
  unfold aIn V
  after_reads_at

theorem bIn_q (r : Fin 512) (k : Fin 256) :
    bIn m c (ix2 ⟨0 + r, by omega⟩ k) = (m ((c.tc : Thread nD τ).loc main_arg1) : Vec Ideal S512x256 .f32) (ix2 r k) := by
  unfold bIn V
  after_reads_at

theorem bIn_k (r : Fin 512) (k : Fin 256) :
    bIn m c (ix2 ⟨512 + r, by omega⟩ k) = (m ((c.tc : Thread nD τ).loc main_arg2) : Vec Ideal S512x256 .f32) (ix2 r k) := by
  unfold bIn V
  after_reads_at

theorem bIn_v (r : Fin 512) (k : Fin 256) :
    bIn m c (ix2 ⟨1024 + r, by omega⟩ k) = (m ((c.tc : Thread nD τ).loc main_arg3) : Vec Ideal S512x256 .f32) (ix2 r k) := by
  unfold bIn V
  after_reads_at
  rw [dif_neg (by omega), dif_neg (by omega), dif_pos (by omega)]
  exact congrArg _ (congrArg₂ ix2 (Fin.ext (by simp only []; omega)) rfl)

/-- The pair a lane lies in, as the kernel computes it. -/
theorem pair_of_lane (k : Fin 256) :
    IntOp.divsi ArithUnit.host (IntOp.remsi ArithUnit.host (BitVec.ofNat 32 k) 64#32) 2#32 = BitVec.ofNat 32 (k % 64 / 2) := by
  revert k
  decide +kernel

/-- The angle of a row and a lane, as the kernel computes it. -/
theorem angle_of_lane (r : Fin 128) (k : Fin 256) :
    FloatOps.sitofp (F := Ideal) FTy.f32 (BitVec.ofNat 32 r) * Ideal.pow (Ideal.ofBits FTy.f32 1176256512#32)
      (Ideal.div (-(Ideal.ofBits FTy.f32 1073741824#32 * FloatOps.sitofp (F := Ideal) FTy.f32
          (IntOp.divsi ArithUnit.host (IntOp.remsi ArithUnit.host (BitVec.ofNat 32 k) 64#32) 2#32)))
        (Ideal.ofBits FTy.f32 1115684864#32)) = ((theta r (k % 64 / 2) : ℝ) : EReal) := by
  rw [pair_of_lane, sitofp_small r (by omega), sitofp_small _ (by omega), rate_of_neg, ← EReal.coe_mul]
  rfl

theorem bIn_cos (r : Fin 128) (k : Fin 256) :
    bIn m c (ix2 ⟨1536 + r, by omega⟩ k) = ((Real.cos (theta r (k % 64 / 2)) : ℝ) : EReal) := by
  have e : 1536 + r.val - 512 - 512 - 512 = r.val := by omega
  unfold bIn V
  after_results_simp
  pointwise
  rw [dif_neg (by omega), dif_neg (by omega), dif_neg (by omega), dif_pos (by omega)]
  after_results_simp
  simp only [id]
  pointwise
  rw [e, angle_of_lane]
  rfl

theorem bIn_sin (r : Fin 128) (k : Fin 256) :
    bIn m c (ix2 ⟨1664 + r, by omega⟩ k) = ((Real.sin (theta r (k % 64 / 2)) : ℝ) : EReal) := by
  have e : 1664 + r.val - 512 - 512 - 512 - 128 = r.val := by omega
  unfold bIn V
  after_results_simp
  pointwise
  rw [dif_neg (by omega), dif_neg (by omega), dif_neg (by omega), dif_neg (by omega)]
  after_results_simp
  simp only [id]
  pointwise
  rw [e, angle_of_lane]
  rfl

end Cert.KernelIdeal.Talk
-- ==== Proof.Device.lean ====
/- A device's heads in terms of its arguments: its head `h` attends with the rotated projections of the input by the
device's own columns of the weights. -/
module

public import proofs.«01_k».proof.Proof.Packed

@[expose] public section

noncomputable section

namespace Cert.KernelIdeal.Talk

open Idealize.ShloMosaic Idealize.ShloMosaic.TcCoe Idealize.SL.Sem Cert.Attention
open Cert.KernelIdeal.Gen

/-- The input of batch `b` against column `64 h + e` of a device's weights. -/
def proj64 (X : Vec Ideal S2x128x512 .f32) (W : Vec Ideal S512x256 .f32) (b : Fin 2) (h : Fin 4) (i : Fin 128) (e : Fin 64) : EReal :=
  ∑ k : Fin 512, X (ix3 b i k) * W (ix2 k (lane h e))

/-- A rotation of a row of the device's 256 lanes, at a lane of head `h`, is the rotation of that head's 64 lanes. -/
theorem rot_lane (p : Fin 128) (t : Fin 256 → EReal) (h : Fin 4) (e : Fin 64) :
    rot (fun l => ((Real.cos (theta p (l % 64 / 2)) : ℝ) : EReal)) (fun l => ((Real.sin (theta p (l % 64 / 2)) : ℝ) : EReal)) t (lane h e)
      = turn p (fun e => t (lane h e)) e := by
  have hl : (lane h e).val % 64 = e.val := by show (64 * h.val + e.val) % 64 = _; omega
  unfold rot turn
  beta_reduce
  rw [hl]
  congr 2
  have hv : (lane h e).val = 64 * h.val + e.val := rfl
  by_cases he : e.val % 2 < 1
  · rw [if_pos he, if_pos (by omega)]
    refine congrArg (fun l => - t l) (Fin.ext ?_)
    unfold mate
    rw [dif_pos (by omega)]
    show 64 * h.val + e.val + 1 = 64 * h.val + (e.val / 2 * 2 + 1)
    omega
  · rw [if_neg he, if_neg (by omega)]
    refine congrArg t (Fin.ext ?_)
    unfold mate
    rw [dif_neg (by omega)]
    show 64 * h.val + e.val - 1 = 64 * h.val + e.val / 2 * 2
    omega

variable (m : (ℓ : Loc nD τ sig) → Buf (Elt Ideal) ℓ) (c : Dev nD)

/-- A device's arguments. -/
def argX : Vec Ideal S2x128x512 .f32 := m ((c.tc : Thread nD τ).loc main_arg0)
def argQ : Vec Ideal S512x256 .f32 := m ((c.tc : Thread nD τ).loc main_arg1)
def argK : Vec Ideal S512x256 .f32 := m ((c.tc : Thread nD τ).loc main_arg2)
def argV : Vec Ideal S512x256 .f32 := m ((c.tc : Thread nD τ).loc main_arg3)
def argO : Vec Ideal S256x512 .f32 := m ((c.tc : Thread nD τ).loc main_arg4)

theorem input_row (b : Fin 2) (i : Fin 128) (k : Fin 512) : ldA0 (aIn m c) (ix2 (row b i) k) = argX m c (ix3 b i k) := by
  rw [ldA0_apply, aIn_top]
  exact congrArg₂ (fun b i => argX m c (ix3 b i k)) (Fin.ext (by show (128 * b.val + i.val) / 128 = _; omega))
    (Fin.ext (by show (128 * b.val + i.val) % 128 = _; omega))

theorem proj_q (b : Fin 2) (h : Fin 4) (i : Fin 128) (e : Fin 64) :
    proj (ldA0 (aIn m c)) (ldB0 (bIn m c)) (row b i) (lane h e) = proj64 (argX m c) (argQ m c) b h i e :=
  Finset.sum_congr rfl fun k _ => by rw [input_row, ldB0_apply, bIn_q]; rfl
theorem proj_k (b : Fin 2) (h : Fin 4) (i : Fin 128) (e : Fin 64) :
    proj (ldA0 (aIn m c)) (ldB1 (bIn m c)) (row b i) (lane h e) = proj64 (argX m c) (argK m c) b h i e :=
  Finset.sum_congr rfl fun k _ => by rw [input_row, ldB1_apply, bIn_k]; rfl
theorem proj_v (b : Fin 2) (h : Fin 4) (i : Fin 128) (e : Fin 64) :
    proj (ldA0 (aIn m c)) (ldB2 (bIn m c)) (row b i) (lane h e) = proj64 (argX m c) (argV m c) b h i e :=
  Finset.sum_congr rfl fun k _ => by rw [input_row, ldB2_apply, bIn_v]; rfl

theorem row_mod (b : Fin 2) (i : Fin 128) : (⟨(row b i).val % 128, by omega⟩ : Fin 128) = i :=
  Fin.ext (by show (128 * b.val + i.val) % 128 = _; omega)

theorem cosines (b : Fin 2) (i : Fin 128) : (fun l : Fin 256 => ldB3 (bIn m c) (ix2 ⟨(row b i).val % 128, by omega⟩ l))
    = fun l : Fin 256 => ((Real.cos (theta i (l.val % 64 / 2)) : ℝ) : EReal) :=
  funext fun l => by rw [row_mod, ldB3_apply]; exact bIn_cos m c i l
theorem sines (b : Fin 2) (i : Fin 128) : (fun l : Fin 256 => ldB4 (bIn m c) (ix2 ⟨(row b i).val % 128, by omega⟩ l))
    = fun l : Fin 256 => ((Real.sin (theta i (l.val % 64 / 2)) : ℝ) : EReal) :=
  funext fun l => by rw [row_mod, ldB4_apply]; exact bIn_sin m c i l

theorem query (b : Fin 2) (h : Fin 4) (i : Fin 128) (e : Fin 64) :
    x95 (aIn m c) (bIn m c) (ix2 (row b i) (lane h e)) = turn i (proj64 (argX m c) (argQ m c) b h i) e := by
  rw [x95_apply, cosines, sines, rot_lane]
  exact congrArg (turn i · e) (funext (proj_q m c b h i))

theorem key (b : Fin 2) (h : Fin 4) (i : Fin 128) (e : Fin 64) :
    x96 (aIn m c) (bIn m c) (ix2 (row b i) (lane h e)) = turn i (proj64 (argX m c) (argK m c) b h i) e := by
  rw [x96_apply, cosines, sines, rot_lane]
  exact congrArg (turn i · e) (funext (proj_k m c b h i))

theorem headOut_eq (b : Fin 2) (h : Fin 4) (i : Fin 128) (d : Fin 64) :
    headOut (aIn m c) (bIn m c) b h i d
      = attend (fun i => turn i (proj64 (argX m c) (argQ m c) b h i)) (fun i => turn i (proj64 (argX m c) (argK m c) b h i))
          (proj64 (argX m c) (argV m c) b h) i d := by
  have q : (fun i e => x95 (aIn m c) (bIn m c) (ix2 (row b i) (lane h e))) = fun i => turn i (proj64 (argX m c) (argQ m c) b h i) :=
    funext fun i => funext fun e => query m c b h i e
  have k : (fun i e => x96 (aIn m c) (bIn m c) (ix2 (row b i) (lane h e))) = fun i => turn i (proj64 (argX m c) (argK m c) b h i) :=
    funext fun i => funext fun e => key m c b h i e
  have v : (fun i e => x50 (aIn m c) (bIn m c) (ix2 (row b i) (lane h e))) = proj64 (argX m c) (argV m c) b h :=
    funext fun i => funext fun e => (x50_apply _ _ _ _).trans (proj_v m c b h i e)
  unfold headOut
  rw [q, k, v]

/-- The device's partial product, entry by entry. -/
theorem partial_apply (b : Fin 2) (i : Fin 128) (n : Fin 512) :
    pbs m c (ix2 (row b i) n) = ∑ l : Fin 256,
      attend (fun i => turn i (proj64 (argX m c) (argQ m c) b ⟨l / 64, by omega⟩ i))
        (fun i => turn i (proj64 (argX m c) (argK m c) b ⟨l / 64, by omega⟩ i))
        (proj64 (argX m c) (argV m c) b ⟨l / 64, by omega⟩) i ⟨l % 64, by omega⟩ * argO m c (ix2 l n) := by
  show pbOf (aIn m c) (bIn m c) (ix2 (row b i) n) = _
  have hb : (⟨(row b i).val / 128, by omega⟩ : Fin 2) = b := Fin.ext (by show (128 * b.val + i.val) / 128 = _; omega)
  rw [pbOf_apply]
  refine Finset.sum_congr rfl fun l _ => ?_
  rw [ctx_apply, hb, row_mod, headOut_eq, ldA1_apply, aIn_bot]
  rfl

end Cert.KernelIdeal.Talk
-- ==== Proof.Gathered.lean ====
/- What the exchange leaves on every device, read at an entry: the sum over the devices of their partial products there. -/
module

public import proofs.«01_k».proof.Proof.Proto
public import Idealize.ShloMosaic.Lib.Pointwise

@[expose] public section

noncomputable section

namespace Cert.KernelIdeal.Talk

open Idealize.ShloMosaic
open Cert.KernelIdeal.Gen

variable (pb : Dev nD → Vec Ideal S256x512 .bf16)

/-- A reduced block is the sum of the devices' blocks. -/
theorem accOf_apply (c : Dev nD) (r : Fin 32) (n : Fin 512) :
    accOf pb c (ix3 0 r n) = ∑ d : Dev nD, rb1 pb c (ix3 d r n) := by
  unfold accOf
  pointwise [k0_pay24, k0_pay23]
  exact (Fin.sum_univ_eight fun d : Fin 8 => rb1 pb c (ix3 d r n)).symm

theorem outOf_apply (b : Fin 2) (i : Fin 128) (n : Fin 512) :
    outOf pb (ix3 b i n) = ∑ d : Dev nD, pb d (ix2 ⟨128 * b + i, by omega⟩ n) := by
  have e : outOf pb (ix3 b i n) = accOf pb ⟨4 * b + i / 32, by show _ < 8; omega⟩ (ix3 0 ⟨i % 32, by omega⟩ n) := by
    show k0_pay25 (sl (rb2 pb) ⟨4 * b + i / 32, _⟩) (ix3 0 ⟨i % 32, _⟩ n) = _
    pointwise [k0_pay25]
    rfl
  rw [e, accOf_apply]
  refine Finset.sum_congr rfl fun d _ => ?_
  show pb d (ix2 ⟨32 * (4 * b.val + i.val / 32) + i.val % 32, _⟩ n) = _
  exact congrArg (fun r => pb d (ix2 r n)) (Fin.ext (by simp only []; omega))

end Cert.KernelIdeal.Talk
-- ==== Proof.RefStages.lean ====
/- The reference's composed term cut in stages: the angles, the tables, a projection, a rotation, the scores, the weights,
the result. -/
module

public import proofs.«01_k».proof.Proof.Gen.ReferenceIdeal.Run
public import Idealize.ShloMosaic.Lib.Pointwise

@[expose] public section

noncomputable section

namespace Cert.ReferenceIdeal.Value

open Cert.ReferenceIdeal Cert.ReferenceIdeal.Gen Idealize.ShloMosaic Idealize.ShloMosaic.TcCoe Idealize.SL.Sem

/-- The angle of each position and pair of lanes. -/
def angles : FVec Ideal S128x32 .f32 :=
  mulf (broadcastInDim S128x32 ![0, 1] bcast_S128x1_S128x32_0_1
      (sitofp .f32 (broadcastInDim S128x1 ![0] bcast_S128_S128x1_0 (iotaInDim S128 32 0))))
    (broadcastInDim S128x32 ![0, 1] bcast_S1x32_S128x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (addi (broadcastInDim S32 ![] bcast_S_S32 (constantI S_ 32 0#32))
              (muli (broadcastInDim S32 ![] bcast_S_S32 (constantI S_ 32 2#32)) (iotaInDim S32 32 0))))
            (broadcastInDim S32 ![] bcast_S_S32 (constant S_ .f32 0x42800000#32)))))))

/-- A table over pairs of lanes, each entry repeated for the pair's two lanes, for every batch and head. -/
def spread (t : FVec Ideal S128x32 .f32) : FVec Ideal S2x128x32x64 .f32 :=
  broadcastInDim S2x128x32x64 ![0, 1, 2, 3] bcast_S1x128x1x64_S2x128x32x64_0_1_2_3
    (broadcastInDim S1x128x1x64 ![1, 3] bcast_S128x64_S1x128x1x64_1_3
      (shapeCast S128x64 (broadcastInDim S128x32x2 ![0, 1] bcast_S128x32_S128x32x2_0_1 t) shapeCasts_S128x32x2_S128x64))

/-- The input against weights, cut in heads. -/
def projected (X : FVec Ideal S2x128x512 .f32) (W : FVec Ideal S512x2048 .f32) : FVec Ideal S2x128x32x64 .f32 :=
  shapeCast S2x128x32x64 (Host.dotGeneral dot_S2x128x512_S512x2048_S2x128x2048_2_0_01_1_n_n none X W) shapeCasts_S2x128x2048_S2x128x32x64

/-- Each pair `(a, b)` of lanes turned into `(-b, a)`. -/
def turned (t : FVec Ideal S2x128x32x64 .f32) : FVec Ideal S2x128x32x64 .f32 :=
  have p : FVec Ideal S2x128x32x32x2 .f32 := shapeCast S2x128x32x32x2 t shapeCasts_S2x128x32x64_S2x128x32x32x2
  shapeCast S2x128x32x64 (concatenate S2x128x32x32x2 4
    [⟨S2x128x32x32x1, broadcastInDim S2x128x32x32x1 ![0, 1, 2, 3] bcast_S2x128x32x32_S2x128x32x32x1_0_1_2_3 (Host.negf
        (shapeCast S2x128x32x32 (extractStridedSlice S2x128x32x32x1 ![0, 0, 0, 0, 1] p slices_S2x128x32x32x2_S2x128x32x32x1_0_0_0_0_1)
          shapeCasts_S2x128x32x32x1_S2x128x32x32))⟩,
      ⟨S2x128x32x32x1, broadcastInDim S2x128x32x32x1 ![0, 1, 2, 3] bcast_S2x128x32x32_S2x128x32x32x1_0_1_2_3
        (shapeCast S2x128x32x32 (extractStridedSlice S2x128x32x32x1 ![0, 0, 0, 0, 0] p slices_S2x128x32x32x2_S2x128x32x32x1_0_0_0_0_0)
          shapeCasts_S2x128x32x32x1_S2x128x32x32)⟩] concatenates_S2x128x32x32x1_S2x128x32x32x1_S2x128x32x32x2_d4)
    shapeCasts_S2x128x32x32x2_S2x128x32x64

/-- Queries or keys rotated. -/
def rotated (t : FVec Ideal S2x128x32x64 .f32) : FVec Ideal S2x128x32x64 .f32 :=
  addf (mulf t (spread (Host.cos angles))) (mulf (turned t) (spread (Host.sin angles)))

/-- The scores, scaled. -/
def scores (q k : FVec Ideal S2x128x32x64 .f32) : FVec Ideal S2x32x128x128 .f32 :=
  mulf (Host.dotGeneral dot_S2x128x32x64_S2x128x32x64_S2x32x128x128_3_3_1_1_02_02 none q k)
    (broadcastInDim S2x32x128x128 ![] bcast_S_S2x32x128x128 (constant S_ .f32 0x3E000000#32))

/-- A row's number at each of the row's entries. -/
def along (r : FVec Ideal S2x32x128 .f32) : FVec Ideal S2x32x128x128 .f32 :=
  broadcastInDim S2x32x128x128 ![0, 1, 2, 3] bcast_S2x32x128x1_S2x32x128x128_0_1_2_3
    (broadcastInDim S2x32x128x1 ![0, 1, 2] bcast_S2x32x128_S2x32x128x1_0_1_2 r)

/-- The exponentials of the scores less their row's largest. -/
def grown (s : FVec Ideal S2x32x128x128 .f32) : FVec Ideal S2x32x128x128 .f32 :=
  Host.exp (subf s (along (Host.reduce FloatOps.maximumf s (constant S_ .f32 0xFF800000#32) reducesTo_S2x32x128x128_S2x32x128_d3 h_S_)))

/-- The weights. -/
def weights (s : FVec Ideal S2x32x128x128 .f32) : FVec Ideal S2x32x128x128 .f32 :=
  Host.divf (grown s) (along (Host.reduceAdd (grown s) (constant S_ .f32 0x00000000#32) reducesTo_S2x32x128x128_S2x32x128_d3 h_S_))

/-- The weighted sums of the values, the heads side by side. -/
def mixed (v : FVec Ideal S2x128x32x64 .f32) (w : FVec Ideal S2x32x128x128 .f32) : FVec Ideal S2x128x2048 .f32 :=
  shapeCast S2x128x2048 (transpose S2x128x32x64 [0, 3, 1, 2]
    (Host.dotGeneral dot_S2x128x32x64_S2x32x128x128_S2x32x64x128_1_3_3_2_02_01 none v w) transposes_S2x32x64x128_S2x128x32x64_0_3_1_2)
    shapeCasts_S2x128x32x64_S2x128x2048

/-- The reference's result. -/
def result (X : FVec Ideal S2x128x512 .f32) (Wq Wk Wv : FVec Ideal S512x2048 .f32) (Wo : FVec Ideal S2048x512 .f32) :
    FVec Ideal S2x128x512 .f32 :=
  Host.dotGeneral dot_S2x128x2048_S2048x512_S2x128x512_2_0_01_1_n_n none
    (mixed (projected X Wv) (weights (scores (rotated (projected X Wq)) (rotated (projected X Wk))))) Wo

theorem res_eq_result (m : (ℓ : Loc nD τ sig) → Buf (Elt Ideal) ℓ) (c : Dev nD) :
    res_main_v80 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Value
-- ==== Proof.RefRead.lean ====
/- The reference's stages read at an entry. -/
module

public import proofs.«01_k».proof.Proof.RefStages
public import proofs.«01_k».proof.Proof.Maths

@[expose] public section

noncomputable section

namespace Cert.ReferenceIdeal.Value

open Cert.ReferenceIdeal Cert.ReferenceIdeal.Gen Idealize.ShloMosaic Cert.Attention

/-- The whole number doubled, as the reference computes it. -/
theorem doubled (n : Fin 32) : IntOp.addi (0#32) (IntOp.muli (2#32) (BitVec.ofNat 32 n)) = BitVec.ofNat 32 (2 * n) := by
  revert n
  decide +kernel

theorem angles_apply (p : Fin 128) (n : Fin 32) : angles (ix2 p n) = ((theta p n : ℝ) : EReal) := by
  pointwise [angles]
  rw [doubled, sitofp_small p (by omega), sitofp_small (2 * n) (by omega), rate_of_div, ← EReal.coe_mul]
  rfl

theorem spread_apply (t : FVec Ideal S128x32 .f32) (b : Fin 2) (p : Fin 128) (h : Fin 32) (e : Fin 64) :
    spread t (ix4 b p h e) = t (ix2 p ⟨e / 2, by omega⟩) := by
  pointwise [spread]

theorem projected_apply (X : FVec Ideal S2x128x512 .f32) (W : FVec Ideal S512x2048 .f32) (b : Fin 2) (p : Fin 128) (h : Fin 32) (e : Fin 64) :
    projected X W (ix4 b p h e) = ∑ k : Fin 512, X (ix3 b p k) * W (ix2 k ⟨h * 64 + e, by omega⟩) := by
  pointwise [projected]

theorem turned_apply (t : FVec Ideal S2x128x32x64 .f32) (b : Fin 2) (p : Fin 128) (h : Fin 32) (e : Fin 64) :
    turned t (ix4 b p h e)
      = if e.val % 2 < 1 then - t (ix4 b p h ⟨e / 2 * 2 + 1, by omega⟩) else t (ix4 b p h ⟨e / 2 * 2, by omega⟩) := by
  pointwise [turned]
  rfl

theorem rotated_apply (t : FVec Ideal S2x128x32x64 .f32) (b : Fin 2) (p : Fin 128) (h : Fin 32) (e : Fin 64) :
    rotated t (ix4 b p h e) = turn p (fun e => t (ix4 b p h e)) e := by
  have c : spread (Host.cos angles) (ix4 b p h e) = ((Real.cos (theta p (e / 2)) : ℝ) : EReal) := by
    rw [spread_apply]
    show Ideal.cos (angles _) = _
    rw [angles_apply]; rfl
  have s : spread (Host.sin angles) (ix4 b p h e) = ((Real.sin (theta p (e / 2)) : ℝ) : EReal) := by
    rw [spread_apply]
    show Ideal.sin (angles _) = _
    rw [angles_apply]; rfl
  show t (ix4 b p h e) * spread (Host.cos angles) (ix4 b p h e) + turned t (ix4 b p h e) * spread (Host.sin angles) (ix4 b p h e) = _
  rw [c, s, turned_apply]
  rfl

theorem scores_apply (q k : FVec Ideal S2x128x32x64 .f32) (b : Fin 2) (h : Fin 32) (i j : Fin 128) :
    scores q k (ix4 b h i j) = (∑ e : Fin 64, q (ix4 b i h e) * k (ix4 b j h e)) * Ideal.ofBits .f32 0x3E000000#32 := by
  pointwise [scores]

theorem grown_apply (s : FVec Ideal S2x32x128x128 .f32) (b : Fin 2) (h : Fin 32) (i j : Fin 128) :
    grown s (ix4 b h i j) = Ideal.exp (s (ix4 b h i j) - Finset.univ.fold max ⊥ fun l : Fin 128 => s (ix4 b h i l)) := by
  pointwise [grown, along]
  rw [lowest]

theorem weights_apply (s : FVec Ideal S2x32x128x128 .f32) (b : Fin 2) (h : Fin 32) (i j : Fin 128) :
    weights s (ix4 b h i j) = Ideal.div (grown s (ix4 b h i j)) (∑ l : Fin 128, grown s (ix4 b h i l)) := by
  pointwise [weights, along]

theorem mixed_apply (v : FVec Ideal S2x128x32x64 .f32) (w : FVec Ideal S2x32x128x128 .f32) (b : Fin 2) (i : Fin 128) (n : Fin 2048) :
    mixed v w (ix3 b i n) = ∑ j : Fin 128, v (ix4 b j ⟨n / 64, by omega⟩ ⟨n % 64, by omega⟩) * w (ix4 b ⟨n / 64, by omega⟩ i j) := by
  pointwise [mixed]

/-- The reference's weights from real scores. -/
theorem weights_of_real (s : FVec Ideal S2x32x128x128 .f32) (b : Fin 2) (h : Fin 32) (i : Fin 128) (hs : ∀ j, IsReal (s (ix4 b h i j)))
    (j : Fin 128) :
    weights s (ix4 b h i j) = Ideal.div (Ideal.exp (s (ix4 b h i j))) (∑ l : Fin 128, Ideal.exp (s (ix4 b h i l))) := by
  rw [weights_apply]
  simp only [grown_apply]
  exact weight_shift (fun j => s (ix4 b h i j)) hs _ (isReal_largest _ hs) j

end Cert.ReferenceIdeal.Value
-- ==== Proof.Equation.lean ====
/- The equation: what the kernel leaves on every device is the reference's result. The kernel's sum over the devices of
sums over their 256 lanes is the reference's sum over all 2048 lanes, and head `h` of device `c` is the reference's head
`4 c + h`. -/
module

public import proofs.«01_k».proof.Proof.Device
public import proofs.«01_k».proof.Proof.Gathered
public import proofs.«01_k».proof.Proof.RefRead
public import Idealize.ShloMosaic.Lib.Layout

@[expose] public section

noncomputable section

namespace Cert.Attention

open Idealize.ShloMosaic Idealize.ShloMosaic.TcCoe Idealize.SL.Sem
open Cert.ReferenceIdeal.Value

/-- The input of batch `b` against the column of lane `e` of head `h`. -/
def full (X : FVec Ideal ⟨3, ![2, 128, 512]⟩ .f32) (W : FVec Ideal ⟨2, ![512, 2048]⟩ .f32) (b : Fin 2) (h : Fin 32) (i : Fin 128) (e : Fin 64) : EReal :=
  ∑ k : Fin 512, X (ix3 b i k) * W (ix2 k ⟨h * 64 + e, by omega⟩)

variable (X : FVec Ideal ⟨3, ![2, 128, 512]⟩ .f32) (Wq Wk Wv : FVec Ideal ⟨2, ![512, 2048]⟩ .f32) (Wo : FVec Ideal ⟨2, ![2048, 512]⟩ .f32)

theorem isReal_full (W : FVec Ideal ⟨2, ![512, 2048]⟩ .f32) (hX : ∀ j, IsReal (X j)) (hW : ∀ j, IsReal (W j)) (b : Fin 2) (h : Fin 32) (i : Fin 128)
    (e : Fin 64) : IsReal (full X W b h i e) :=
  IsReal.sum _ _ fun _ => (hX _).mul (hW _)

theorem rotated_projected (W : FVec Ideal ⟨2, ![512, 2048]⟩ .f32) (b : Fin 2) (i : Fin 128) (h : Fin 32) (e : Fin 64) :
    rotated (projected X W) (ix4 b i h e) = turn i (full X W b h i) e := by
  rw [rotated_apply]
  exact congrArg (turn i · e) (funext fun e => projected_apply X W b i h e)

theorem scores_eq (b : Fin 2) (h : Fin 32) (i j : Fin 128) :
    scores (rotated (projected X Wq)) (rotated (projected X Wk)) (ix4 b h i j)
      = score (fun i => turn i (full X Wq b h i)) (fun i => turn i (full X Wk b h i)) i j := by
  rw [scores_apply]
  simp only [rotated_projected]
  rfl

/-- The reference's heads, side by side. -/
theorem mixed_eq (hX : ∀ j, IsReal (X j)) (hq : ∀ j, IsReal (Wq j)) (hk : ∀ j, IsReal (Wk j)) (b : Fin 2) (i : Fin 128) (n : Fin 2048) :
    mixed (projected X Wv) (weights (scores (rotated (projected X Wq)) (rotated (projected X Wk)))) (ix3 b i n)
      = attend (fun i => turn i (full X Wq b ⟨n / 64, by omega⟩ i)) (fun i => turn i (full X Wk b ⟨n / 64, by omega⟩ i))
          (full X Wv b ⟨n / 64, by omega⟩) i ⟨n % 64, by omega⟩ := by
  rw [mixed_apply]
  refine Finset.sum_congr rfl fun j _ => ?_
  rw [weights_of_real _ _ _ _ fun j => by
    rw [scores_eq]
    exact IsReal.score (fun i e => IsReal.turn (isReal_full X Wq hX hq b _ i) e) (fun i e => IsReal.turn (isReal_full X Wk hX hk b _ i) e) i j]
  simp only [scores_eq]
  rw [mul_comm, projected_apply]
  rfl

open Cert.KernelIdeal.Talk in
/-- A device's projection is the whole projection at the device's lanes. -/
theorem proj64_block (W : FVec Ideal ⟨2, ![512, 2048]⟩ .f32) (c : Fin 8) (b : Fin 2) (h : Fin 4) :
    proj64 X (Layout.block ⟨2, ![512, 256]⟩ ⟨2, ![512, 2048]⟩ 1 8 c W) b h = full X W b ⟨4 * c + h, by omega⟩ := by
  funext i e
  refine Finset.sum_congr rfl fun k _ => congrArg (X (ix3 b i k) * ·) (congrArg W (funext fun a => Fin.ext ?_))
  fin_cases a
  · rfl
  · show c.val * 256 + (64 * h.val + e.val) = (4 * c.val + h.val) * 64 + e.val
    omega

open Cert.KernelIdeal Cert.KernelIdeal.Talk in
theorem equation (m : (ℓ : Loc nD τ sig) → Buf (Elt Ideal) ℓ)
    (hX : ∀ c, argX m c = X) (hQ : ∀ c, argQ m c = Layout.block ⟨2, ![512, 256]⟩ ⟨2, ![512, 2048]⟩ 1 8 c Wq)
    (hK : ∀ c, argK m c = Layout.block ⟨2, ![512, 256]⟩ ⟨2, ![512, 2048]⟩ 1 8 c Wk)
    (hV : ∀ c, argV m c = Layout.block ⟨2, ![512, 256]⟩ ⟨2, ![512, 2048]⟩ 1 8 c Wv)
    (hO : ∀ c, argO m c = Layout.block ⟨2, ![256, 512]⟩ ⟨2, ![2048, 512]⟩ 0 8 c Wo)
    (rX : ∀ j, IsReal (X j)) (rQ : ∀ j, IsReal (Wq j)) (rK : ∀ j, IsReal (Wk j)) :
    outOf (pbs m) = result X Wq Wk Wv Wo := by
  funext x
  rw [eq_ix3 x]
  generalize x 0 = b
  generalize x 1 = i
  generalize x 2 = n
  change Fin 2 at b
  change Fin 128 at i
  change Fin 512 at n
  have R : result X Wq Wk Wv Wo (ix3 b i n)
      = ∑ k : Fin 2048, mixed (projected X Wv) (weights (scores (rotated (projected X Wq)) (rotated (projected X Wk)))) (ix3 b i k) * Wo (ix2 k n) := by
    pointwise [result]
  rw [R, outOf_apply, Fin.sum_univ_tiles 8 256 rfl]
  refine Finset.sum_congr rfl fun c _ => ?_
  rw [show (ix2 ⟨128 * b.val + i.val, by omega⟩ n : (⟨2, ![256, 512]⟩ : Shape).Idx) = ix2 (row b i) n from rfl, partial_apply]
  refine Finset.sum_congr rfl fun l _ => ?_
  have hc : c.val < 8 := c.isLt
  have hh : (⟨(c.val * 256 + l.val) / 64, by omega⟩ : Fin 32) = ⟨4 * c.val + (⟨l.val / 64, by omega⟩ : Fin 4).val, by simp only []; omega⟩ :=
    Fin.ext (by simp only []; omega)
  have hd : (⟨(c.val * 256 + l.val) % 64, by omega⟩ : Fin 64) = ⟨l.val % 64, by omega⟩ := Fin.ext (by simp only []; omega)
  rw [mixed_eq X Wq Wk Wv rX rQ rK, hX, hQ, hK, hV, hO, proj64_block, proj64_block, proj64_block]
  rw [hh, hd]
  refine congrArg₂ (· * ·) rfl (congrArg Wo (funext fun a => Fin.ext ?_))
  fin_cases a <;> rfl

end Cert.Attention
-- ==== Proof.Finite.lean ====
/- The precondition read back: every entry of the input and of the device's columns of the query and key weights is a real
number. -/
module

public import proofs.«01_k».proof.Defs
public import proofs.«01_k».proof.Proof.Gen.Pre_finite_KernelIdeal
public import proofs.«01_k».proof.Proof.Maths
public import Idealize.ShloMosaic.Lib.ReduceAll

@[expose] public section

noncomputable section

namespace Cert.Attention

open Idealize.ShloMosaic Cert.Pre_finite_KernelIdeal Cert.Pre_finite_KernelIdeal.Gen

/-- A number whose absolute value is less than infinity is real. -/
theorem isReal_of_abs_lt (x : EReal) (h : FloatOps.cmpf (F := Ideal) (φ := .f32) .olt (FloatOps.hostAbsf (F := Ideal) (φ := .f32) x)
    (Ideal.ofBits .f32 0x7F800000#32) = 1#1) : IsReal x := by
  have top : Ideal.ofBits .f32 0x7F800000#32 = ⊤ := by simp [Ideal.ofBits, Ideal.ieee]
  rw [top] at h
  have lt := (Ideal.cmp_olt_eq_one _ _).1 h
  induction x using EReal.rec with
  | bot => exact absurd lt (lt_irrefl _)
  | top => exact absurd lt (lt_irrefl _)
  | coe r => exact ⟨r, rfl⟩

instance : Subsingleton S_.Idx := ⟨fun a b => funext fun i => i.elim0⟩

theorem isReal_of_pre (x : FVec Ideal S2x128x512 .f32) (wq wk wv : FVec Ideal S512x256 .f32) (wo : FVec Ideal S256x512 .f32)
    (h : fn (F := Ideal) x wq wk wv wo = fun _ => 1#1) :
    (∀ j, IsReal (x j)) ∧ (∀ j, IsReal (wq j)) ∧ (∀ j, IsReal (wk j)) := by
  have h0 := congrFun h ix0
  obtain ⟨h1, hk⟩ := IntOp.andi_eq_one.1 h0
  obtain ⟨hx, hq⟩ := IntOp.andi_eq_one.1 h1
  exact ⟨fun j => isReal_of_abs_lt _ (Host.reduce_andi_all _ _ _ _ _ hx j), fun j => isReal_of_abs_lt _ (Host.reduce_andi_all _ _ _ _ _ hq j),
    fun j => isReal_of_abs_lt _ (Host.reduce_andi_all _ _ _ _ _ hk j)⟩

end Cert.Attention
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Run
public import proofs.«01_k».proof.Proof.Equation
public import proofs.«01_k».proof.Proof.Finite
public import Idealize.ShloMosaic.Adequacy
public import Idealize.ShloMosaic.Init

@[expose] public section

noncomputable section

namespace Cert.Proof

open Idealize.ShloMosaic Idealize.SL.Sem

theorem frame_kernelIdeal : Cert.quiescent_KernelIdeal := fun m ρ _ => Cert.KernelIdeal.Talk.run_frame (F := Ideal) m ρ

/-- The two kernels are the same text. -/
theorem bodies_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

theorem defs_same : Cert.Kernel.defs (F := Bits) = Cert.KernelIdeal.defs (F := Bits) :=
  congrArg (Pipeline.defs (Cert.KernelIdeal.pcfgs (F := Bits))) bodies_same

/-- So the run of the idealized kernel serves for the machine's floats too. -/
theorem frame_kernel : Cert.quiescent_Kernel := fun m ρ _ => by
  rw [defs_same]
  exact Cert.KernelIdeal.Talk.run_frame (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.Attention Cert.KernelIdeal.Talk in
/-- Every device's result is the reference's. -/
theorem value : Cert.algebraic_KernelIdeal_ReferenceIdeal_pre_finite_KernelIdeal := by
  intro m g m' g' pre args
  have real := fun c => isReal_of_pre _ _ _ _ _ (pre c)
  have whole : ∀ (W : FVec Ideal ⟨2, ![512, 2048]⟩ .f32),
      (∀ (c : Fin 8) (j : (⟨2, ![512, 256]⟩ : Shape).Idx), IsReal (Layout.block ⟨2, ![512, 256]⟩ ⟨2, ![512, 2048]⟩ 1 8 c W (by decide) j)) → ∀ j, IsReal (W j) := by
    intro W h j
    have e : j = (show Layout.Tiles ⟨2, ![512, 256]⟩ ⟨2, ![512, 2048]⟩ 1 8 by decide).idx
        ⟨(j 1).val / 256, Nat.div_lt_of_lt_mul (j 1).isLt⟩ (ValueIdx.ix2 (j 0) ⟨(j 1).val % 256, Nat.mod_lt _ (by decide)⟩) := by
      funext a
      refine Fin.ext ?_
      fin_cases a
      · rfl
      · exact (Nat.div_add_mod' (j 1).val 256).symm
    rw [e]
    exact h _ _
  have eq := equation _ _ _ _ _ m (fun c => (args c).1) (fun c => (args c).2.1) (fun c => (args c).2.2.1) (fun c => (args c).2.2.2.1)
    (fun c => (args c).2.2.2.2) (fun j => (args 0).1 ▸ (real 0).1 j) (whole _ fun c j => (args c).2.1 ▸ (real c).2.1 j)
    (whole _ fun c j => (args c).2.2.1 ▸ (real c).2.2 j)
  refine ⟨outOf (pbs m), ?_, ?_⟩
  · exact (θ_run Cert.KernelIdeal.defs _ _).mono (fun r h c => ⟨(h.1 c).2, (h.1 c).1⟩) (run_main m g)
  · exact (θ_run Cert.ReferenceIdeal.defs _ _).mono
      (fun r h => ⟨(h 0).1.trans ((Cert.ReferenceIdeal.Value.res_eq_result m' 0).trans eq.symm), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_KernelIdeal.Gen.facts,
  Cert.Pre_finite_ReferenceIdeal.Gen.facts, frame_kernel, frame_kernelIdeal, fun m ρ _ => frame_kernelIdeal m ρ trivial, frame_reference,
  fun m ρ _ => frame_reference m ρ trivial, trivial, value⟩

end Cert.Proof

end
